-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x4096x7936 : Shape := ⟨3, ![8, 4096, 7936]⟩
abbrev S8x4096x62 : Shape := ⟨3, ![8, 4096, 62]⟩
abbrev S6656x7936 : Shape := ⟨2, ![6656, 7936]⟩
abbrev S6656x62 : Shape := ⟨2, ![6656, 62]⟩
abbrev S_ : Shape := ⟨0, ![]⟩

class Facts : Prop where
  bcast_S_S8x4096x7936 : S_.BroadcastsInDim S8x4096x7936 (![] : Fin 0 → Fin S8x4096x7936.rank)
  reducesTo_S8x4096x7936_S_d0_1_2 : S8x4096x7936.ReducesTo [0, 1, 2] S_
  h_S_ : 0 < S_.numel
  bcast_S_S6656x7936 : S_.BroadcastsInDim S6656x7936 (![] : Fin 0 → Fin S6656x7936.rank)
  reducesTo_S6656x7936_S_d0_1 : S6656x7936.ReducesTo [0, 1] S_
  bcast_S_S8x4096x62 : S_.BroadcastsInDim S8x4096x62 (![] : Fin 0 → Fin S8x4096x62.rank)
  reducesTo_S8x4096x62_S_d0_1_2 : S8x4096x62.ReducesTo [0, 1, 2] S_
  bcast_S_S6656x62 : S_.BroadcastsInDim S6656x62 (![] : Fin 0 → Fin S6656x62.rank)
  reducesTo_S6656x62_S_d0_1 : S6656x62.ReducesTo [0, 1] S_

variable [Facts]

def fn_part1 {F : FTy → Type} [FloatOps F] (main_arg1 : FVec F S8x4096x62 .f32) (main_arg3 : FVec F S6656x62 .f32) (main_arg4 : IVec S6656x7936 8) (main_arg5 : FVec F S6656x62 .f32) (main_v2 : IVec S_ 1) (main_v5 : IVec S_ 1) (main_v8 : IVec S_ 1) (main_v11 : IVec S_ 1) (main_v13 : IVec S6656x7936 1) (main_c_8 : IVec S_ 1) : IVec S_ 1 × IVec S_ 1 × IVec S_ 1 × IVec S_ 1 × IVec S_ 1 × IVec S_ 1 × IVec S_ 1 × IVec S_ 1 × IVec S_ 1 :=
  let main_v14 : IVec S_ 1 := (fun x v => Host.reduce IntOp.andi x v reducesTo_S6656x7936_S_d0_1 h_S_) main_v13 main_c_8
  let main_c_9 : IVec S_ 8 := constantI S_ 8 255#8
  let main_v15 : IVec S6656x7936 8 := broadcastInDim S6656x7936 ![] bcast_S_S6656x7936 main_c_9
  let main_v16 : IVec S6656x7936 1 := cmpi .ne main_arg4 main_v15
  let main_c_10 : IVec S_ 1 := constantI S_ 1 1#1
  let main_v17 : IVec S_ 1 := (fun x v => Host.reduce IntOp.andi x v reducesTo_S6656x7936_S_d0_1 h_S_) main_v16 main_c_10
  let main_v18 : FVec F S8x4096x62 .f32 := Host.absf main_arg1
  let main_cst : FVec F S_ .f32 := constant S_ .f32 0x47800000#32
  let main_v19 : FVec F S8x4096x62 .f32 := broadcastInDim S8x4096x62 ![] bcast_S_S8x4096x62 main_cst
  let main_v20 : IVec S8x4096x62 1 := cmpf .ole main_v18 main_v19
  let main_c_11 : IVec S_ 1 := constantI S_ 1 1#1
  let main_v21 : IVec S_ 1 := (fun x v => Host.reduce IntOp.andi x v reducesTo_S8x4096x62_S_d0_1_2 h_S_) main_v20 main_c_11
  let main_v22 : FVec F S6656x62 .f32 := Host.absf main_arg3
  let main_cst_12 : FVec F S_ .f32 := constant S_ .f32 0x47800000#32
  let main_v23 : FVec F S6656x62 .f32 := broadcastInDim S6656x62 ![] bcast_S_S6656x62 main_cst_12
  let main_v24 : IVec S6656x62 1 := cmpf .ole main_v22 main_v23
  let main_c_13 : IVec S_ 1 := constantI S_ 1 1#1
  let main_v25 : IVec S_ 1 := (fun x v => Host.reduce IntOp.andi x v reducesTo_S6656x62_S_d0_1 h_S_) main_v24 main_c_13
  let main_v26 : FVec F S6656x62 .f32 := Host.absf main_arg5
  let main_cst_14 : FVec F S_ .f32 := constant S_ .f32 0x47800000#32
  let main_v27 : FVec F S6656x62 .f32 := broadcastInDim S6656x62 ![] bcast_S_S6656x62 main_cst_14
  let main_v28 : IVec S6656x62 1 := cmpf .ole main_v26 main_v27
  let main_c_15 : IVec S_ 1 := constantI S_ 1 1#1
  let main_v29 : IVec S_ 1 := (fun x v => Host.reduce IntOp.andi x v reducesTo_S6656x62_S_d0_1 h_S_) main_v28 main_c_15
  (main_v2, main_v5, main_v8, main_v11, main_v14, main_v17, main_v21, main_v25, main_v29)

def fn {F : FTy → Type} [FloatOps F] (main_arg0 : IVec S8x4096x7936 8) (main_arg1 : FVec F S8x4096x62 .f32) (main_arg2 : IVec S6656x7936 8) (main_arg3 : FVec F S6656x62 .f32) (main_arg4 : IVec S6656x7936 8) (main_arg5 : FVec F S6656x62 .f32) : IVec S_ 1 × IVec S_ 1 × IVec S_ 1 × IVec S_ 1 × IVec S_ 1 × IVec S_ 1 × IVec S_ 1 × IVec S_ 1 × IVec S_ 1 :=
  let main_c : IVec S_ 8 := constantI S_ 8 127#8
  let main_v0 : IVec S8x4096x7936 8 := broadcastInDim S8x4096x7936 ![] bcast_S_S8x4096x7936 main_c
  let main_v1 : IVec S8x4096x7936 1 := cmpi .ne main_arg0 main_v0
  let main_c_0 : IVec S_ 1 := constantI S_ 1 1#1
  let main_v2 : IVec S_ 1 := (fun x v => Host.reduce IntOp.andi x v reducesTo_S8x4096x7936_S_d0_1_2 h_S_) main_v1 main_c_0
  let main_c_1 : IVec S_ 8 := constantI S_ 8 255#8
  let main_v3 : IVec S8x4096x7936 8 := broadcastInDim S8x4096x7936 ![] bcast_S_S8x4096x7936 main_c_1
  let main_v4 : IVec S8x4096x7936 1 := cmpi .ne main_arg0 main_v3
  let main_c_2 : IVec S_ 1 := constantI S_ 1 1#1
  let main_v5 : IVec S_ 1 := (fun x v => Host.reduce IntOp.andi x v reducesTo_S8x4096x7936_S_d0_1_2 h_S_) main_v4 main_c_2
  let main_c_3 : IVec S_ 8 := constantI S_ 8 127#8
  let main_v6 : IVec S6656x7936 8 := broadcastInDim S6656x7936 ![] bcast_S_S6656x7936 main_c_3
  let main_v7 : IVec S6656x7936 1 := cmpi .ne main_arg2 main_v6
  let main_c_4 : IVec S_ 1 := constantI S_ 1 1#1
  let main_v8 : IVec S_ 1 := (fun x v => Host.reduce IntOp.andi x v reducesTo_S6656x7936_S_d0_1 h_S_) main_v7 main_c_4
  let main_c_5 : IVec S_ 8 := constantI S_ 8 255#8
  let main_v9 : IVec S6656x7936 8 := broadcastInDim S6656x7936 ![] bcast_S_S6656x7936 main_c_5
  let main_v10 : IVec S6656x7936 1 := cmpi .ne main_arg2 main_v9
  let main_c_6 : IVec S_ 1 := constantI S_ 1 1#1
  let main_v11 : IVec S_ 1 := (fun x v => Host.reduce IntOp.andi x v reducesTo_S6656x7936_S_d0_1 h_S_) main_v10 main_c_6
  let main_c_7 : IVec S_ 8 := constantI S_ 8 127#8
  let main_v12 : IVec S6656x7936 8 := broadcastInDim S6656x7936 ![] bcast_S_S6656x7936 main_c_7
  let main_v13 : IVec S6656x7936 1 := cmpi .ne main_arg4 main_v12
  let main_c_8 : IVec S_ 1 := constantI S_ 1 1#1
  fn_part1 (F := F) main_arg1 main_arg3 main_arg4 main_arg5 main_v2 main_v5 main_v8 main_v11 main_v13 main_c_8
-- ==== Kernel.lean ====
abbrev S8x4096x7936 : Shape := ⟨3, ![8, 4096, 7936]⟩
abbrev S8x4096x62 : Shape := ⟨3, ![8, 4096, 62]⟩
abbrev S6656x7936 : Shape := ⟨2, ![6656, 7936]⟩
abbrev S6656x62 : Shape := ⟨2, ![6656, 62]⟩
abbrev S32768x7936 : Shape := ⟨2, ![32768, 7936]⟩
abbrev S32768x62 : Shape := ⟨2, ![32768, 62]⟩
abbrev S32768x6656 : Shape := ⟨2, ![32768, 6656]⟩
abbrev S32768x52 : Shape := ⟨2, ![32768, 52]⟩
abbrev S1024x7936 : Shape := ⟨2, ![1024, 7936]⟩
abbrev S1024x62 : Shape := ⟨2, ![1024, 62]⟩
abbrev S256x7936 : Shape := ⟨2, ![256, 7936]⟩
abbrev S256x62 : Shape := ⟨2, ![256, 62]⟩
abbrev S1024x256 : Shape := ⟨2, ![1024, 256]⟩
abbrev S1024x52 : Shape := ⟨2, ![1024, 52]⟩
abbrev S64x128 : Shape := ⟨2, ![64, 128]⟩
abbrev S64x1 : Shape := ⟨2, ![64, 1]⟩
abbrev S256x128 : Shape := ⟨2, ![256, 128]⟩
abbrev S256x1 : Shape := ⟨2, ![256, 1]⟩
abbrev S1024x128 : Shape := ⟨2, ![1024, 128]⟩
abbrev S1024 : Shape := ⟨1, ![1024]⟩
abbrev S1024x1 : Shape := ⟨2, ![1024, 1]⟩

abbrev nBuf : Space → Nat
  | .hbm => 13
  | .vmem => 19
  | .smem => 0
  | _ => 0

abbrev bufTy : (tb : Table) → Fin (tcTables nBuf tb) → BufTy
  | .hbm, ⟨0, _⟩ => ⟨S8x4096x7936, .i8⟩
  | .hbm, ⟨1, _⟩ => ⟨S8x4096x62, .f32⟩
  | .hbm, ⟨2, _⟩ => ⟨S6656x7936, .i8⟩
  | .hbm, ⟨3, _⟩ => ⟨S6656x62, .f32⟩
  | .hbm, ⟨4, _⟩ => ⟨S6656x7936, .i8⟩
  | .hbm, ⟨5, _⟩ => ⟨S6656x62, .f32⟩
  | .hbm, ⟨6, _⟩ => ⟨S8x4096x7936, .fp8e4m3⟩
  | .hbm, ⟨7, _⟩ => ⟨S6656x7936, .fp8e4m3⟩
  | .hbm, ⟨8, _⟩ => ⟨S6656x7936, .fp8e4m3⟩
  | .hbm, ⟨9, _⟩ => ⟨S32768x7936, .fp8e4m3⟩
  | .hbm, ⟨10, _⟩ => ⟨S32768x62, .f32⟩
  | .hbm, ⟨11, _⟩ => ⟨S32768x6656, .fp8e4m3⟩
  | .hbm, ⟨12, _⟩ => ⟨S32768x52, .f32⟩
  | .local _ .vmem, ⟨0, _⟩ => ⟨S1024x7936, .fp8e4m3⟩
  | .local _ .vmem, ⟨1, _⟩ => ⟨S1024x7936, .fp8e4m3⟩
  | .local _ .vmem, ⟨2, _⟩ => ⟨S1024x62, .f32⟩
  | .local _ .vmem, ⟨3, _⟩ => ⟨S1024x62, .f32⟩
  | .local _ .vmem, ⟨4, _⟩ => ⟨S256x7936, .fp8e4m3⟩
  | .local _ .vmem, ⟨5, _⟩ => ⟨S256x7936, .fp8e4m3⟩
  | .local _ .vmem, ⟨6, _⟩ => ⟨S256x62, .f32⟩
  | .local _ .vmem, ⟨7, _⟩ => ⟨S256x62, .f32⟩
  | .local _ .vmem, ⟨8, _⟩ => ⟨S256x7936, .fp8e4m3⟩
  | .local _ .vmem, ⟨9, _⟩ => ⟨S256x7936, .fp8e4m3⟩
  | .local _ .vmem, ⟨10, _⟩ => ⟨S256x62, .f32⟩
  | .local _ .vmem, ⟨11, _⟩ => ⟨S256x62, .f32⟩
  | .local _ .vmem, ⟨12, _⟩ => ⟨S1024x256, .fp8e4m3⟩
  | .local _ .vmem, ⟨13, _⟩ => ⟨S1024x256, .fp8e4m3⟩
  | .local _ .vmem, ⟨14, _⟩ => ⟨S1024x52, .f32⟩
  | .local _ .vmem, ⟨15, _⟩ => ⟨S1024x52, .f32⟩
  | .local _ .vmem, ⟨16, _⟩ => ⟨S1024x7936, .bf16⟩
  | .local _ .vmem, ⟨17, _⟩ => ⟨S256x7936, .bf16⟩
  | .local _ .vmem, ⟨18, _⟩ => ⟨S256x7936, .bf16⟩
  | _, _ => ⟨S8x4096x7936, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 26], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_707 : BitVec 32 := 0#32
  let c16_i32_708 : BitVec 32 := 16#32
  let v1606 : BitVec 32 := Scalar.addi c0_i32_707 c16_i32_708
  let c1_i32_709 : BitVec 32 := 1#32
  ⟨c0_i32_707, v1606, c1_i32_709⟩
def k0_mult1 (k0_t1 : Fin k0_t1_loop.trips) : BitVec 32 :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  v1607
def k0_off1 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1609 : Index := Scalar.indexCast v1608
  let c0_712 : Index := 0#32
  ![v1609.toNat, 0]
def k0_off2 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1612 : Index := Scalar.indexCast v1608
  let c0_713 : Index := 0#32
  ![v1612.toNat, 0]
def k0_off3 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1624 : Index := Scalar.indexCast v1608
  let c128_715 : Index := 128#32
  ![v1624.toNat, 128]
def k0_off4 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1627 : Index := Scalar.indexCast v1608
  let c1_716 : Index := 1#32
  ![v1627.toNat, 1]
def k0_off5 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1639 : Index := Scalar.indexCast v1608
  let c256_718 : Index := 256#32
  ![v1639.toNat, 256]
def k0_off6 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1642 : Index := Scalar.indexCast v1608
  let c2_719 : Index := 2#32
  ![v1642.toNat, 2]
def k0_off7 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1654 : Index := Scalar.indexCast v1608
  let c384_721 : Index := 384#32
  ![v1654.toNat, 384]
def k0_off8 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1657 : Index := Scalar.indexCast v1608
  let c3_722 : Index := 3#32
  ![v1657.toNat, 3]
def k0_off9 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1669 : Index := Scalar.indexCast v1608
  let c512_724 : Index := 512#32
  ![v1669.toNat, 512]
def k0_off10 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1672 : Index := Scalar.indexCast v1608
  let c4_725 : Index := 4#32
  ![v1672.toNat, 4]
def k0_off11 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1684 : Index := Scalar.indexCast v1608
  let c640_727 : Index := 640#32
  ![v1684.toNat, 640]
def k0_off12 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1687 : Index := Scalar.indexCast v1608
  let c5_728 : Index := 5#32
  ![v1687.toNat, 5]
def k0_off13 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1699 : Index := Scalar.indexCast v1608
  let c768_730 : Index := 768#32
  ![v1699.toNat, 768]
def k0_off14 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1702 : Index := Scalar.indexCast v1608
  let c6_731 : Index := 6#32
  ![v1702.toNat, 6]
def k0_off15 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1714 : Index := Scalar.indexCast v1608
  let c896_733 : Index := 896#32
  ![v1714.toNat, 896]
def k0_off16 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1717 : Index := Scalar.indexCast v1608
  let c7_734 : Index := 7#32
  ![v1717.toNat, 7]
def k0_off17 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1729 : Index := Scalar.indexCast v1608
  let c1024_736 : Index := 1024#32
  ![v1729.toNat, 1024]
def k0_off18 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1732 : Index := Scalar.indexCast v1608
  let c8_737 : Index := 8#32
  ![v1732.toNat, 8]
def k0_off19 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1744 : Index := Scalar.indexCast v1608
  let c1152_739 : Index := 1152#32
  ![v1744.toNat, 1152]
def k0_off20 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1747 : Index := Scalar.indexCast v1608
  let c9_740 : Index := 9#32
  ![v1747.toNat, 9]
def k0_off21 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1759 : Index := Scalar.indexCast v1608
  let c1280_742 : Index := 1280#32
  ![v1759.toNat, 1280]
def k0_off22 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1762 : Index := Scalar.indexCast v1608
  let c10_743 : Index := 10#32
  ![v1762.toNat, 10]
def k0_off23 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1774 : Index := Scalar.indexCast v1608
  let c1408_745 : Index := 1408#32
  ![v1774.toNat, 1408]
def k0_off24 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1777 : Index := Scalar.indexCast v1608
  let c11_746 : Index := 11#32
  ![v1777.toNat, 11]
def k0_off25 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1789 : Index := Scalar.indexCast v1608
  let c1536_748 : Index := 1536#32
  ![v1789.toNat, 1536]
def k0_off26 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1792 : Index := Scalar.indexCast v1608
  let c12_749 : Index := 12#32
  ![v1792.toNat, 12]
def k0_off27 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1804 : Index := Scalar.indexCast v1608
  let c1664_751 : Index := 1664#32
  ![v1804.toNat, 1664]
def k0_off28 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1807 : Index := Scalar.indexCast v1608
  let c13_752 : Index := 13#32
  ![v1807.toNat, 13]
def k0_off29 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1819 : Index := Scalar.indexCast v1608
  let c1792_754 : Index := 1792#32
  ![v1819.toNat, 1792]
def k0_off30 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1822 : Index := Scalar.indexCast v1608
  let c14_755 : Index := 14#32
  ![v1822.toNat, 14]
def k0_off31 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1834 : Index := Scalar.indexCast v1608
  let c1920_757 : Index := 1920#32
  ![v1834.toNat, 1920]
def k0_off32 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1837 : Index := Scalar.indexCast v1608
  let c15_758 : Index := 15#32
  ![v1837.toNat, 15]
def k0_off33 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1849 : Index := Scalar.indexCast v1608
  let c2048_760 : Index := 2048#32
  ![v1849.toNat, 2048]
def k0_off34 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1852 : Index := Scalar.indexCast v1608
  let c16_761 : Index := 16#32
  ![v1852.toNat, 16]
def k0_off35 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1864 : Index := Scalar.indexCast v1608
  let c2176_763 : Index := 2176#32
  ![v1864.toNat, 2176]
def k0_off36 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1867 : Index := Scalar.indexCast v1608
  let c17_764 : Index := 17#32
  ![v1867.toNat, 17]
def k0_off37 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1879 : Index := Scalar.indexCast v1608
  let c2304_766 : Index := 2304#32
  ![v1879.toNat, 2304]
def k0_off38 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1882 : Index := Scalar.indexCast v1608
  let c18_767 : Index := 18#32
  ![v1882.toNat, 18]
def k0_off39 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1894 : Index := Scalar.indexCast v1608
  let c2432_769 : Index := 2432#32
  ![v1894.toNat, 2432]
def k0_off40 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1897 : Index := Scalar.indexCast v1608
  let c19_770 : Index := 19#32
  ![v1897.toNat, 19]
def k0_off41 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1909 : Index := Scalar.indexCast v1608
  let c2560_772 : Index := 2560#32
  ![v1909.toNat, 2560]
def k0_off42 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1912 : Index := Scalar.indexCast v1608
  let c20_773 : Index := 20#32
  ![v1912.toNat, 20]
def k0_off43 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1924 : Index := Scalar.indexCast v1608
  let c2688_775 : Index := 2688#32
  ![v1924.toNat, 2688]
def k0_off44 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1927 : Index := Scalar.indexCast v1608
  let c21_776 : Index := 21#32
  ![v1927.toNat, 21]
def k0_off45 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1939 : Index := Scalar.indexCast v1608
  let c2816_778 : Index := 2816#32
  ![v1939.toNat, 2816]
def k0_off46 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1942 : Index := Scalar.indexCast v1608
  let c22_779 : Index := 22#32
  ![v1942.toNat, 22]
def k0_off47 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1954 : Index := Scalar.indexCast v1608
  let c2944_781 : Index := 2944#32
  ![v1954.toNat, 2944]
def k0_off48 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1957 : Index := Scalar.indexCast v1608
  let c23_782 : Index := 23#32
  ![v1957.toNat, 23]
def k0_off49 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1969 : Index := Scalar.indexCast v1608
  let c3072_784 : Index := 3072#32
  ![v1969.toNat, 3072]
def k0_off50 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1972 : Index := Scalar.indexCast v1608
  let c24_785 : Index := 24#32
  ![v1972.toNat, 24]
def k0_off51 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1984 : Index := Scalar.indexCast v1608
  let c3200_787 : Index := 3200#32
  ![v1984.toNat, 3200]
def k0_off52 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1987 : Index := Scalar.indexCast v1608
  let c25_788 : Index := 25#32
  ![v1987.toNat, 25]
def k0_off53 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v1999 : Index := Scalar.indexCast v1608
  let c3328_790 : Index := 3328#32
  ![v1999.toNat, 3328]
def k0_off54 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2002 : Index := Scalar.indexCast v1608
  let c26_791 : Index := 26#32
  ![v2002.toNat, 26]
def k0_off55 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2014 : Index := Scalar.indexCast v1608
  let c3456_793 : Index := 3456#32
  ![v2014.toNat, 3456]
def k0_off56 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2017 : Index := Scalar.indexCast v1608
  let c27_794 : Index := 27#32
  ![v2017.toNat, 27]
def k0_off57 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2029 : Index := Scalar.indexCast v1608
  let c3584_796 : Index := 3584#32
  ![v2029.toNat, 3584]
def k0_off58 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2032 : Index := Scalar.indexCast v1608
  let c28_797 : Index := 28#32
  ![v2032.toNat, 28]
def k0_off59 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2044 : Index := Scalar.indexCast v1608
  let c3712_799 : Index := 3712#32
  ![v2044.toNat, 3712]
def k0_off60 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2047 : Index := Scalar.indexCast v1608
  let c29_800 : Index := 29#32
  ![v2047.toNat, 29]
def k0_off61 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2059 : Index := Scalar.indexCast v1608
  let c3840_802 : Index := 3840#32
  ![v2059.toNat, 3840]
def k0_off62 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2062 : Index := Scalar.indexCast v1608
  let c30_803 : Index := 30#32
  ![v2062.toNat, 30]
def k0_off63 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2074 : Index := Scalar.indexCast v1608
  let c3968_805 : Index := 3968#32
  ![v2074.toNat, 3968]
def k0_off64 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2077 : Index := Scalar.indexCast v1608
  let c31_806 : Index := 31#32
  ![v2077.toNat, 31]
def k0_off65 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2089 : Index := Scalar.indexCast v1608
  let c4096_808 : Index := 4096#32
  ![v2089.toNat, 4096]
def k0_off66 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2092 : Index := Scalar.indexCast v1608
  let c32_809 : Index := 32#32
  ![v2092.toNat, 32]
def k0_off67 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2104 : Index := Scalar.indexCast v1608
  let c4224_811 : Index := 4224#32
  ![v2104.toNat, 4224]
def k0_off68 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2107 : Index := Scalar.indexCast v1608
  let c33_812 : Index := 33#32
  ![v2107.toNat, 33]
def k0_off69 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2119 : Index := Scalar.indexCast v1608
  let c4352_814 : Index := 4352#32
  ![v2119.toNat, 4352]
def k0_off70 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2122 : Index := Scalar.indexCast v1608
  let c34_815 : Index := 34#32
  ![v2122.toNat, 34]
def k0_off71 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2134 : Index := Scalar.indexCast v1608
  let c4480_817 : Index := 4480#32
  ![v2134.toNat, 4480]
def k0_off72 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2137 : Index := Scalar.indexCast v1608
  let c35_818 : Index := 35#32
  ![v2137.toNat, 35]
def k0_off73 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2149 : Index := Scalar.indexCast v1608
  let c4608_820 : Index := 4608#32
  ![v2149.toNat, 4608]
def k0_off74 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2152 : Index := Scalar.indexCast v1608
  let c36_821 : Index := 36#32
  ![v2152.toNat, 36]
def k0_off75 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2164 : Index := Scalar.indexCast v1608
  let c4736_823 : Index := 4736#32
  ![v2164.toNat, 4736]
def k0_off76 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2167 : Index := Scalar.indexCast v1608
  let c37_824 : Index := 37#32
  ![v2167.toNat, 37]
def k0_off77 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2179 : Index := Scalar.indexCast v1608
  let c4864_826 : Index := 4864#32
  ![v2179.toNat, 4864]
def k0_off78 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2182 : Index := Scalar.indexCast v1608
  let c38_827 : Index := 38#32
  ![v2182.toNat, 38]
def k0_off79 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2194 : Index := Scalar.indexCast v1608
  let c4992_829 : Index := 4992#32
  ![v2194.toNat, 4992]
def k0_off80 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2197 : Index := Scalar.indexCast v1608
  let c39_830 : Index := 39#32
  ![v2197.toNat, 39]
def k0_off81 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2209 : Index := Scalar.indexCast v1608
  let c5120_832 : Index := 5120#32
  ![v2209.toNat, 5120]
def k0_off82 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2212 : Index := Scalar.indexCast v1608
  let c40_833 : Index := 40#32
  ![v2212.toNat, 40]
def k0_off83 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2224 : Index := Scalar.indexCast v1608
  let c5248_835 : Index := 5248#32
  ![v2224.toNat, 5248]
def k0_off84 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2227 : Index := Scalar.indexCast v1608
  let c41_836 : Index := 41#32
  ![v2227.toNat, 41]
def k0_off85 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2239 : Index := Scalar.indexCast v1608
  let c5376_838 : Index := 5376#32
  ![v2239.toNat, 5376]
def k0_off86 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2242 : Index := Scalar.indexCast v1608
  let c42_839 : Index := 42#32
  ![v2242.toNat, 42]
def k0_off87 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2254 : Index := Scalar.indexCast v1608
  let c5504_841 : Index := 5504#32
  ![v2254.toNat, 5504]
def k0_off88 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2257 : Index := Scalar.indexCast v1608
  let c43_842 : Index := 43#32
  ![v2257.toNat, 43]
def k0_off89 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2269 : Index := Scalar.indexCast v1608
  let c5632_844 : Index := 5632#32
  ![v2269.toNat, 5632]
def k0_off90 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2272 : Index := Scalar.indexCast v1608
  let c44_845 : Index := 44#32
  ![v2272.toNat, 44]
def k0_off91 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2284 : Index := Scalar.indexCast v1608
  let c5760_847 : Index := 5760#32
  ![v2284.toNat, 5760]
def k0_off92 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2287 : Index := Scalar.indexCast v1608
  let c45_848 : Index := 45#32
  ![v2287.toNat, 45]
def k0_off93 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2299 : Index := Scalar.indexCast v1608
  let c5888_850 : Index := 5888#32
  ![v2299.toNat, 5888]
def k0_off94 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2302 : Index := Scalar.indexCast v1608
  let c46_851 : Index := 46#32
  ![v2302.toNat, 46]
def k0_off95 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2314 : Index := Scalar.indexCast v1608
  let c6016_853 : Index := 6016#32
  ![v2314.toNat, 6016]
def k0_off96 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2317 : Index := Scalar.indexCast v1608
  let c47_854 : Index := 47#32
  ![v2317.toNat, 47]
def k0_off97 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2329 : Index := Scalar.indexCast v1608
  let c6144_856 : Index := 6144#32
  ![v2329.toNat, 6144]
def k0_off98 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2332 : Index := Scalar.indexCast v1608
  let c48_857 : Index := 48#32
  ![v2332.toNat, 48]
def k0_off99 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2344 : Index := Scalar.indexCast v1608
  let c6272_859 : Index := 6272#32
  ![v2344.toNat, 6272]
def k0_off100 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2347 : Index := Scalar.indexCast v1608
  let c49_860 : Index := 49#32
  ![v2347.toNat, 49]
def k0_off101 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2359 : Index := Scalar.indexCast v1608
  let c6400_862 : Index := 6400#32
  ![v2359.toNat, 6400]
def k0_off102 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2362 : Index := Scalar.indexCast v1608
  let c50_863 : Index := 50#32
  ![v2362.toNat, 50]
def k0_off103 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2374 : Index := Scalar.indexCast v1608
  let c6528_865 : Index := 6528#32
  ![v2374.toNat, 6528]
def k0_off104 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2377 : Index := Scalar.indexCast v1608
  let c51_866 : Index := 51#32
  ![v2377.toNat, 51]
def k0_off105 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2389 : Index := Scalar.indexCast v1608
  let c6656_868 : Index := 6656#32
  ![v2389.toNat, 6656]
def k0_off106 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2392 : Index := Scalar.indexCast v1608
  let c52_869 : Index := 52#32
  ![v2392.toNat, 52]
def k0_off107 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2404 : Index := Scalar.indexCast v1608
  let c6784_871 : Index := 6784#32
  ![v2404.toNat, 6784]
def k0_off108 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2407 : Index := Scalar.indexCast v1608
  let c53_872 : Index := 53#32
  ![v2407.toNat, 53]
def k0_off109 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2419 : Index := Scalar.indexCast v1608
  let c6912_874 : Index := 6912#32
  ![v2419.toNat, 6912]
def k0_off110 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2422 : Index := Scalar.indexCast v1608
  let c54_875 : Index := 54#32
  ![v2422.toNat, 54]
def k0_off111 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2434 : Index := Scalar.indexCast v1608
  let c7040_877 : Index := 7040#32
  ![v2434.toNat, 7040]
def k0_off112 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2437 : Index := Scalar.indexCast v1608
  let c55_878 : Index := 55#32
  ![v2437.toNat, 55]
def k0_off113 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2449 : Index := Scalar.indexCast v1608
  let c7168_880 : Index := 7168#32
  ![v2449.toNat, 7168]
def k0_off114 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2452 : Index := Scalar.indexCast v1608
  let c56_881 : Index := 56#32
  ![v2452.toNat, 56]
def k0_off115 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2464 : Index := Scalar.indexCast v1608
  let c7296_883 : Index := 7296#32
  ![v2464.toNat, 7296]
def k0_off116 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2467 : Index := Scalar.indexCast v1608
  let c57_884 : Index := 57#32
  ![v2467.toNat, 57]
def k0_off117 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2479 : Index := Scalar.indexCast v1608
  let c7424_886 : Index := 7424#32
  ![v2479.toNat, 7424]
def k0_off118 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2482 : Index := Scalar.indexCast v1608
  let c58_887 : Index := 58#32
  ![v2482.toNat, 58]
def k0_off119 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2494 : Index := Scalar.indexCast v1608
  let c7552_889 : Index := 7552#32
  ![v2494.toNat, 7552]
def k0_off120 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2497 : Index := Scalar.indexCast v1608
  let c59_890 : Index := 59#32
  ![v2497.toNat, 59]
def k0_off121 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2509 : Index := Scalar.indexCast v1608
  let c7680_892 : Index := 7680#32
  ![v2509.toNat, 7680]
def k0_off122 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2512 : Index := Scalar.indexCast v1608
  let c60_893 : Index := 60#32
  ![v2512.toNat, 60]
def k0_off123 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2524 : Index := Scalar.indexCast v1608
  let c7808_895 : Index := 7808#32
  ![v2524.toNat, 7808]
def k0_off124 (k0_t1 : Fin k0_t1_loop.trips) : Fin 2 → Nat :=
  let c0_i32_707 : BitVec 32 := 0#32
  let c1_i32_709 : BitVec 32 := 1#32
  let arg13 : BitVec 32 := Scf.iv c0_i32_707 c1_i32_709 k0_t1
  let c64_i32_711 : BitVec 32 := 64#32
  let v1607 : BitVec 32 := Scalar.muli arg13 c64_i32_711
  let v1608 : BitVec 32 := v1607
  let v2527 : Index := Scalar.indexCast v1608
  let c61_896 : Index := 61#32
  ![v2527.toNat, 61]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x7936 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x62 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x7936 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x62 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x7936 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x62 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x52 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8x4096x7936 : Shape := ⟨3, ![8, 4096, 7936]⟩
abbrev S8x4096x62 : Shape := ⟨3, ![8, 4096, 62]⟩
abbrev S6656x7936 : Shape := ⟨2, ![6656, 7936]⟩
abbrev S6656x62 : Shape := ⟨2, ![6656, 62]⟩
abbrev S32768x7936 : Shape := ⟨2, ![32768, 7936]⟩
abbrev S32768x62 : Shape := ⟨2, ![32768, 62]⟩
abbrev S32768x6656 : Shape := ⟨2, ![32768, 6656]⟩
abbrev S32768x52 : Shape := ⟨2, ![32768, 52]⟩
abbrev S32768x62x128 : Shape := ⟨3, ![32768, 62, 128]⟩
abbrev S32768x62x1 : Shape := ⟨3, ![32768, 62, 1]⟩
abbrev S6656x62x128 : Shape := ⟨3, ![6656, 62, 128]⟩
abbrev S6656x62x1 : Shape := ⟨3, ![6656, 62, 1]⟩
abbrev S32768x52x128 : Shape := ⟨3, ![32768, 52, 128]⟩
abbrev S32768x52x252 : Shape := ⟨3, ![32768, 52, 252]⟩
abbrev S32768x52x1 : Shape := ⟨3, ![32768, 52, 1]⟩

abbrev nBuf : Space → Nat
  | .hbm => 13
  | .vmem => 8
  | .smem => 0
  | _ => 0

abbrev bufTy : (tb : Table) → Fin (tcTables nBuf tb) → BufTy
  | .hbm, ⟨0, _⟩ => ⟨S8x4096x7936, .i8⟩
  | .hbm, ⟨1, _⟩ => ⟨S8x4096x62, .f32⟩
  | .hbm, ⟨2, _⟩ => ⟨S6656x7936, .i8⟩
  | .hbm, ⟨3, _⟩ => ⟨S6656x62, .f32⟩
  | .hbm, ⟨4, _⟩ => ⟨S6656x7936, .i8⟩
  | .hbm, ⟨5, _⟩ => ⟨S6656x62, .f32⟩
  | .hbm, ⟨6, _⟩ => ⟨S8x4096x7936, .fp8e4m3⟩
  | .hbm, ⟨7, _⟩ => ⟨S6656x7936, .fp8e4m3⟩
  | .hbm, ⟨8, _⟩ => ⟨S6656x7936, .fp8e4m3⟩
  | .hbm, ⟨9, _⟩ => ⟨S32768x7936, .fp8e4m3⟩
  | .hbm, ⟨10, _⟩ => ⟨S32768x62, .f32⟩
  | .hbm, ⟨11, _⟩ => ⟨S32768x6656, .fp8e4m3⟩
  | .hbm, ⟨12, _⟩ => ⟨S32768x52, .f32⟩
  | .local _ .vmem, ⟨0, _⟩ => ⟨S32768x7936, .fp8e4m3⟩
  | .local _ .vmem, ⟨1, _⟩ => ⟨S32768x62, .f32⟩
  | .local _ .vmem, ⟨2, _⟩ => ⟨S6656x7936, .fp8e4m3⟩
  | .local _ .vmem, ⟨3, _⟩ => ⟨S6656x62, .f32⟩
  | .local _ .vmem, ⟨4, _⟩ => ⟨S6656x7936, .fp8e4m3⟩
  | .local _ .vmem, ⟨5, _⟩ => ⟨S6656x62, .f32⟩
  | .local _ .vmem, ⟨6, _⟩ => ⟨S32768x6656, .fp8e4m3⟩
  | .local _ .vmem, ⟨7, _⟩ => ⟨S32768x52, .f32⟩
  | _, _ => ⟨S8x4096x7936, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32768x7936 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x62 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6656x7936 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6656x62 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6656x7936 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6656x62 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x6656 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x52 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelFrame.lean ====
/- The frame of the kernel as it is run on floating-point words: it terminates, leaves its arguments
   unchanged and every semaphore at zero. Nothing of what it computes is named: both outputs and the three scratch
   buffers are handed on at some contents. The body is run once with the first feature block's branch taken (case A)
   and once without it (case B). -/
module

public import proofs.«01_k».proof.Proof.Gen.Kernel.Frame
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

-- a rectangle of the kernel's extents is looked into once per coordinate of its long axes
set_option maxRecDepth 16384

noncomputable section

namespace Cert.Kernel.Forgotten

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 26) — by arithmetic of the point. -/
theorem hcond0_0 : ∀ t : Fin cfg0.N, cond0_0 (grid0.coords t) ↔ t.val % 26 = 0 :=
  (fun t => by
    have ht : t.val < 832 := Nat.lt_of_lt_of_eq t.isLt N_0
    have e0 : (grid0.coords t 0).val = t.val / 26 % 32 := Pipeline.Grid.coords_val t 0 (by decide) rfl
    have e1 : (grid0.coords t 1).val = t.val / 1 % 26 := Pipeline.Grid.coords_val t 1 (by decide) rfl
    simp only [cond0_0, k0_cond1, e0, e1]
    word_cmp
   : ∀ t : Fin grid0.N, cond0_0 (grid0.coords t) ↔ t.val % 26 = 0)

/-! ## The kernel body on any staging memrefs: a subtype the run finds -/

/-- Each window's current staging memref at point `t`, spelled as the pipeline passes it (`bodyAt0`), and its wholeness. -/
abbrev ms0_0 (t : Fin cfg0.N) : Memref sig .tc .vmem S1024x7936 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x62 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x7936 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x62 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x7936 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x62 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x52 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x7936 .bf16 := Memref.whole cc0_scratch0
abbrev scM0_1 : Memref sig .tc .vmem S256x7936 .bf16 := Memref.whole cc0_scratch1
abbrev scM0_2 : Memref sig .tc .vmem S256x7936 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

-- (the run's proof term is large: checking it walks past the default budget)
set_option maxHeartbeats 2952000 in
/-- The body's triple IN CASE A (`scf.if` 0 taken: points 0, 26, … 806: 32 of 832): on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1024x7936 .fp8e4m3) (harg2 : arg2.IsWhole) (arg3 : Memref sig .tc .vmem S1024x62 .f32) (harg3 : arg3.IsWhole) (arg4 : Memref sig .tc .vmem S256x7936 .fp8e4m3) (harg4 : arg4.IsWhole) (arg5 : Memref sig .tc .vmem S256x62 .f32) (harg5 : arg5.IsWhole) (arg6 : Memref sig .tc .vmem S256x7936 .fp8e4m3) (harg6 : arg6.IsWhole) (arg7 : Memref sig .tc .vmem S256x62 .f32) (harg7 : arg7.IsWhole) (arg8 : Memref sig .tc .vmem S1024x256 .fp8e4m3) (harg8 : arg8.IsWhole) (arg9 : Memref sig .tc .vmem S1024x52 .f32) (harg9 : arg9.IsWhole) (arg10 : Memref sig .tc .vmem S1024x7936 .bf16) (harg10 : arg10.IsWhole) (arg11 : Memref sig .tc .vmem S256x7936 .bf16) (harg11 : arg11.IsWhole) (arg12 : Memref sig .tc .vmem S256x7936 .bf16) (harg12 : arg12.IsWhole) (hc0 : cond0_0 i)
    (x0 : Vec F S1024x7936 .fp8e4m3) (x1 : Vec F S1024x62 .f32) (x2 : Vec F S256x7936 .fp8e4m3) (x3 : Vec F S256x62 .f32) (x4 : Vec F S256x7936 .fp8e4m3) (x5 : Vec F S256x62 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K := by
    intro E K
    simp only [cc0_gate_up_eq_skeleton]; unfold cc0_gate_up_skel
    simp only [k0_part63_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

-- (the run's proof term is large: checking it walks past the default budget)
set_option maxHeartbeats 2912000 in
/-- The body's triple IN CASE B (`scf.if` 0 not taken: points 1, 2, … 831: 800 of 832): on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1024x7936 .fp8e4m3) (harg2 : arg2.IsWhole) (arg3 : Memref sig .tc .vmem S1024x62 .f32) (harg3 : arg3.IsWhole) (arg4 : Memref sig .tc .vmem S256x7936 .fp8e4m3) (harg4 : arg4.IsWhole) (arg5 : Memref sig .tc .vmem S256x62 .f32) (harg5 : arg5.IsWhole) (arg6 : Memref sig .tc .vmem S256x7936 .fp8e4m3) (harg6 : arg6.IsWhole) (arg7 : Memref sig .tc .vmem S256x62 .f32) (harg7 : arg7.IsWhole) (arg8 : Memref sig .tc .vmem S1024x256 .fp8e4m3) (harg8 : arg8.IsWhole) (arg9 : Memref sig .tc .vmem S1024x52 .f32) (harg9 : arg9.IsWhole) (arg10 : Memref sig .tc .vmem S1024x7936 .bf16) (harg10 : arg10.IsWhole) (arg11 : Memref sig .tc .vmem S256x7936 .bf16) (harg11 : arg11.IsWhole) (arg12 : Memref sig .tc .vmem S256x7936 .bf16) (harg12 : arg12.IsWhole) (hc0 : ¬cond0_0 i)
    (x0 : Vec F S1024x7936 .fp8e4m3) (x1 : Vec F S1024x62 .f32) (x2 : Vec F S256x7936 .fp8e4m3) (x3 : Vec F S256x62 .f32) (x4 : Vec F S256x7936 .fp8e4m3) (x5 : Vec F S256x62 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K := by
    intro E K
    simp only [cc0_gate_up_eq_skeleton]; unfold cc0_gate_up_skel
    simp only [k0_part63_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-! ## The pipeline's proof data -/

/-- The output windows this certificate FORGETS (6, 7): nothing reads what the kernel leaves in them, so nothing
    of it is named (Lib/Pipeline/Dat.lean `Dat.toRForget`). -/
def forgets0 : Fin 8 → Bool := fun w => w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 832 := lt_of_lt_of_eq t.isLt (show cfg0.N = 832 from N_0)
  by_cases h0 : t.val % 26 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The launch: the run's statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      ((h c).2 main_arg4 (Pipeline.mem_restRefs_of main_arg4 (by decide) (by decide))).trans (V_main_arg4 m c),
      (Pipeline.RDat.FramePost.arr_in h c 5 rfl).trans ((hA c 5).trans (V_main_arg5 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Forgotten

end
-- ==== Proof.Points.lean ====
/- The grid point's branch, the staging buffers and the scratch buffers of the kernel, by name. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

-- a rectangle of the kernel's extents is looked into once per coordinate of its long axes
set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 26) — by arithmetic of the point. -/
theorem hcond0_0 : ∀ t : Fin cfg0.N, cond0_0 (grid0.coords t) ↔ t.val % 26 = 0 :=
  (fun t => by
    have ht : t.val < 832 := Nat.lt_of_lt_of_eq t.isLt N_0
    have e0 : (grid0.coords t 0).val = t.val / 26 % 32 := Pipeline.Grid.coords_val t 0 (by decide) rfl
    have e1 : (grid0.coords t 1).val = t.val / 1 % 26 := Pipeline.Grid.coords_val t 1 (by decide) rfl
    simp only [cond0_0, k0_cond1, e0, e1]
    word_cmp
   : ∀ t : Fin grid0.N, cond0_0 (grid0.coords t) ↔ t.val % 26 = 0)

/-! ## The kernel body on any staging memrefs: a subtype the run finds -/

/-- Each window's current staging memref at point `t`, spelled as the pipeline passes it (`bodyAt0`), and its wholeness. -/
abbrev ms0_0 (t : Fin cfg0.N) : Memref sig .tc .vmem S1024x7936 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x62 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x7936 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x62 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x7936 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x62 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x52 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x7936 .bf16 := Memref.whole cc0_scratch0
abbrev scM0_1 : Memref sig .tc .vmem S256x7936 .bf16 := Memref.whole cc0_scratch1
abbrev scM0_2 : Memref sig .tc .vmem S256x7936 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Body

end
-- ==== Proof.Widen.lean ====
/- The widened codes: a code times its group's scale, both in bf16. The kernel fills a scratch buffer with them strip by strip,
   128 columns at a time, the last strip first in the list of what it stored; the buffer then reads as the widened block. -/
module

public import proofs.«01_k».proof.Proof.Points
public import Idealize.ShloMosaic.Lib.Writes
public import Idealize.ShloMosaic.Lib.WholeRead
public import Idealize.ShloMosaic.Lib.Pipeline.Value
public import Idealize.ShloMosaic.Lib.ValueIdxCore

@[expose] public section

set_option maxRecDepth 16384

noncomputable section

namespace Cert.KernelIdeal.Body

open Cert.KernelIdeal Cert.KernelIdeal.Gen Idealize.ShloMosaic Idealize.ShloMosaic.TcCoe Idealize.ShloMosaic.ValueIdx

variable {F : FTy → Type} [FloatOps F]

/-- The group of a column. -/
def groupOf (j : Fin 7936) : Fin 62 := ⟨j.val / 128, by have := j.isLt; omega⟩

/-- The widened block: at row `i` and column `j` the code in bf16 times the bf16 rounding of the scale of row `i`, group `j / 128`. -/
def widen {R : ℕ} (X : Vec F ⟨2, ![R, 7936]⟩ .fp8e4m3) (S : Vec F ⟨2, ![R, 62]⟩ .f32) : Vec F ⟨2, ![R, 7936]⟩ .bf16 :=
  fun y => FloatOps.mulf (φ := .bf16) (FloatOps.extf (φ := .fp8e4m3) .bf16 bitsLt_fp8e4m3_bf16 (X y))
    (FloatOps.truncf (φ := .f32) .bf16 bitsLt_bf16_f32 (S (ix2 (y 0) (groupOf (y 1)))))

/-- What a list of stores has left: every piece agrees with `G`, and rows `r0` to `r0 + h` are covered in the first `n` strips
    of 128 columns. -/
structure Strips {R : ℕ} (G : Vec F ⟨2, ![R, 7936]⟩ .bf16) (r0 h n : ℕ)
    (L : List (View.Piece (Elt F) ⟨2, ![R, 7936]⟩ .bf16)) : Prop where
  /-- each piece agrees with `G` -/
  agree : ∀ p ∈ L, ∀ x : p.1.shape.Idx, p.2 x = G (p.1.emb x)
  /-- the strips are covered -/
  cover : ∀ y : (⟨2, ![R, 7936]⟩ : Shape).Idx, r0 ≤ (y 0).val → (y 0).val < r0 + h → (y 1).val < 128 * n → ∃ p ∈ L, y ∈ p.1.set

variable {R h : ℕ} {G : Vec F ⟨2, ![R, 7936]⟩ .bf16} {r0 n : ℕ} {L : List (View.Piece (Elt F) ⟨2, ![R, 7936]⟩ .bf16)}

theorem Strips.nil : Strips G r0 h 0 [] := ⟨by simp, fun y _ _ hy => by omega⟩

/-- A strip more: a store at rows `r0`, column `128 * n` of values that agree with `G`. -/
theorem Strips.cons (hL : Strips G r0 h n L) {o : Fin 2 → ℕ} {inb : ∀ a, o a + ![h, 128] a ≤ (⟨2, ![R, 7936]⟩ : Shape).size a}
    {P : (⟨2, ![h, 128]⟩ : Shape).Idx → Elt F .bf16}
    (hP : ∀ x, P x = G ((Rect.unit (s := ⟨2, ![R, 7936]⟩) o ![h, 128] inb).emb x)) (h0 : o 0 = r0) (h1 : o 1 = 128 * n) :
    Strips G r0 h (n + 1) (⟨Rect.unit (s := ⟨2, ![R, 7936]⟩) o ![h, 128] inb, P⟩ :: L) where
  agree p hp x := by
    rcases List.mem_cons.mp hp with rfl | hp
    · exact hP x
    · exact hL.agree p hp x
  cover y ha hb hc := by
    by_cases hy : (y 1).val < 128 * n
    · obtain ⟨p, hp, hm⟩ := hL.cover y ha hb hy
      exact ⟨p, List.mem_cons_of_mem _ hp, hm⟩
    · refine ⟨_, List.mem_cons_self, ?_⟩
      rw [Rect.mem_set_unit]
      intro a
      match a with
      | ⟨0, _⟩ => show o 0 ≤ (y 0).val ∧ (y 0).val < o 0 + h; omega
      | ⟨1, _⟩ => show o 1 ≤ (y 1).val ∧ (y 1).val < o 1 + 128; omega

variable {sp : Space} {a : Memref sig .tc .vmem ⟨2, ![R, 7936]⟩ .fp8e4m3} {s : Memref sig .tc .vmem ⟨2, ![R, 62]⟩ .f32}

/-- A column broadcast along the strip's 128 lanes. -/
theorem broadcast_column {α : Type} (B : (⟨2, ![h, 1]⟩ : Shape).Idx → α) (bc : Shape.Broadcasts ⟨2, ![h, 1]⟩ ⟨2, ![h, 128]⟩)
    (x : (⟨2, ![h, 128]⟩ : Shape).Idx) : broadcastTo ⟨2, ![h, 128]⟩ B bc x = B (ix2 (x 0) 0) := by
  unfold broadcastTo
  refine congrArg B (funext fun d => ?_)
  match d with
  | ⟨0, hd⟩ =>
    by_cases hh : (⟨2, ![h, 1]⟩ : Shape).size ⟨0, hd⟩ = 1
    · rw [dif_pos hh]
      refine Fin.ext ?_
      have h1 : h = 1 := hh
      have h2 : (x 0).val < h := (x 0).isLt
      show 0 = (x 0).val
      omega
    · rw [dif_neg hh]
      rfl
  | ⟨1, hd⟩ => exact dif_pos rfl

/-- A reshape to the same shape changes nothing of a strip's arithmetic. -/
theorem strip_casts (A : FVec F ⟨2, ![h, 128]⟩ .fp8e4m3) (B : FVec F ⟨2, ![h, 1]⟩ .f32)
    (bc : Shape.Broadcasts ⟨2, ![h, 1]⟩ ⟨2, ![h, 128]⟩) (c1 : Shape.ShapeCasts ⟨2, ![h, 128]⟩ ⟨2, ![h, 128]⟩)
    (c2 : Shape.ShapeCasts ⟨2, ![h, 1]⟩ ⟨2, ![h, 1]⟩) :
    shapeCast ⟨2, ![h, 128]⟩ (mulf (extf .bf16 (shapeCast ⟨2, ![h, 128]⟩ A c1) bitsLt_fp8e4m3_bf16)
        (truncf .bf16 (broadcastTo ⟨2, ![h, 128]⟩ (shapeCast ⟨2, ![h, 1]⟩ B c2) bc) bitsLt_bf16_f32)) c1
      = mulf (extf .bf16 A bitsLt_fp8e4m3_bf16) (truncf .bf16 (broadcastTo ⟨2, ![h, 128]⟩ B bc) bitsLt_bf16_f32) := by
  rw [shapeCast_self, shapeCast_self, shapeCast_self]

/-- The stored values of a strip, from the strip of codes and its column of scales, agree with the widened block. -/
theorem strip_eq (ha : a.IsWhole) (hs : s.IsWhole) (X : Vec F ⟨2, ![R, 7936]⟩ .fp8e4m3) (S : Vec F ⟨2, ![R, 62]⟩ .f32)
    {o o' : Fin 2 → ℕ} {inb : ∀ a, o a + ![h, 128] a ≤ (⟨2, ![R, 7936]⟩ : Shape).size a}
    {inb' : ∀ a, o' a + ![h, 1] a ≤ (⟨2, ![R, 62]⟩ : Shape).size a}
    (e0 : o' 0 = o 0) (e1 : o 1 = 128 * o' 1) (bc : Shape.Broadcasts ⟨2, ![h, 1]⟩ ⟨2, ![h, 128]⟩)
    (x : (⟨2, ![h, 128]⟩ : Shape).Idx) :
    mulf (extf .bf16 (a.view.readAt (Elt F) (Rect.unit (s := ⟨2, ![R, 7936]⟩) o ![h, 128] inb).toLoadRect (ha.unread X)) bitsLt_fp8e4m3_bf16)
        (truncf .bf16 (broadcastTo ⟨2, ![h, 128]⟩
          (s.view.readAt (Elt F) (Rect.unit (s := ⟨2, ![R, 62]⟩) o' ![h, 1] inb').toLoadRect (hs.unread S)) bc) bitsLt_bf16_f32) x
      = widen X S ((Rect.unit (s := ⟨2, ![R, 7936]⟩) o ![h, 128] inb).emb x) := by
  have e : broadcastTo ⟨2, ![h, 128]⟩
          (s.view.readAt (Elt F) (Rect.unit (s := ⟨2, ![R, 62]⟩) o' ![h, 1] inb').toLoadRect (hs.unread S)) bc x
      = S (ix2 ((Rect.unit (s := ⟨2, ![R, 7936]⟩) o ![h, 128] inb).emb x 0) (groupOf ((Rect.unit (s := ⟨2, ![R, 7936]⟩) o ![h, 128] inb).emb x 1))) := by
    refine (broadcast_column _ bc x).trans ((hs.readAt_unread _ _ _).trans ?_)
    refine congrArg S (funext fun d => Fin.ext ?_)
    match d with
    | ⟨0, _⟩ => show o' 0 + 1 * (x 0).val = o 0 + 1 * (x 0).val; omega
    | ⟨1, _⟩ =>
      have hx : (x 1).val < 128 := (x 1).isLt
      show o' 1 + 1 * 0 = (o 1 + 1 * (x 1).val) / 128
      omega
  show FloatOps.mulf _ (FloatOps.truncf .bf16 _ (broadcastTo _ _ _ x)) = _
  rw [e]
  exact congrArg (fun z => FloatOps.mulf (φ := .bf16) (FloatOps.extf (φ := .fp8e4m3) .bf16 bitsLt_fp8e4m3_bf16 z) _)
    (ha.readAt_unread X (Rect.unit (s := ⟨2, ![R, 7936]⟩) o ![h, 128] inb).toLoadRect x)

/-- What the kernel stores of a strip of weights. -/
theorem strip_weights (ha : a.IsWhole) (hs : s.IsWhole) (X : Vec F ⟨2, ![R, 7936]⟩ .fp8e4m3) (S : Vec F ⟨2, ![R, 62]⟩ .f32)
    {o o' : Fin 2 → ℕ} {inb : ∀ a, o a + ![h, 128] a ≤ (⟨2, ![R, 7936]⟩ : Shape).size a}
    {inb' : ∀ a, o' a + ![h, 1] a ≤ (⟨2, ![R, 62]⟩ : Shape).size a}
    (bc : Shape.Broadcasts ⟨2, ![h, 1]⟩ ⟨2, ![h, 128]⟩) (c1 : Shape.ShapeCasts ⟨2, ![h, 128]⟩ ⟨2, ![h, 128]⟩)
    (c2 : Shape.ShapeCasts ⟨2, ![h, 1]⟩ ⟨2, ![h, 1]⟩) (e0 : o' 0 = o 0) (e1 : o 1 = 128 * o' 1)
    (x : (⟨2, ![h, 128]⟩ : Shape).Idx) :
    shapeCast ⟨2, ![h, 128]⟩ (mulf (extf .bf16 (shapeCast ⟨2, ![h, 128]⟩
          (a.view.readAt (Elt F) (Rect.unit (s := ⟨2, ![R, 7936]⟩) o ![h, 128] inb).toLoadRect (ha.unread X)) c1) bitsLt_fp8e4m3_bf16)
        (truncf .bf16 (broadcastTo ⟨2, ![h, 128]⟩ (shapeCast ⟨2, ![h, 1]⟩
          (s.view.readAt (Elt F) (Rect.unit (s := ⟨2, ![R, 62]⟩) o' ![h, 1] inb').toLoadRect (hs.unread S)) c2) bc) bitsLt_bf16_f32)) c1 x
      = widen X S ((Rect.unit (s := ⟨2, ![R, 7936]⟩) o ![h, 128] inb).emb x) := by
  exact (congrFun (strip_casts _ _ bc c1 c2) x).trans (strip_eq ha hs X S e0 e1 bc x)

/-- What the kernel stores of a strip of activations. -/
theorem strip_activations (ha : a.IsWhole) (hs : s.IsWhole) (X : Vec F ⟨2, ![R, 7936]⟩ .fp8e4m3) (S : Vec F ⟨2, ![R, 62]⟩ .f32)
    {o o' : Fin 2 → ℕ} {inb : ∀ a, o a + ![h, 128] a ≤ (⟨2, ![R, 7936]⟩ : Shape).size a}
    {inb' : ∀ a, o' a + ![h, 1] a ≤ (⟨2, ![R, 62]⟩ : Shape).size a}
    (bc : Shape.Broadcasts ⟨2, ![h, 1]⟩ ⟨2, ![h, 128]⟩) (c1 : Shape.ShapeCasts ⟨2, ![h, 128]⟩ ⟨2, ![h, 128]⟩)
    (c2 : Shape.ShapeCasts ⟨2, ![h, 1]⟩ ⟨2, ![h, 1]⟩) (e0 : o' 0 = o 0) (e1 : o 1 = 128 * o' 1)
    (x : (⟨2, ![h, 128]⟩ : Shape).Idx) :
    shapeCast ⟨2, ![h, 128]⟩ (mulf (extf .bf16 (shapeCast ⟨2, ![h, 128]⟩
          (a.view.readAt (Elt F) (Rect.unit (s := ⟨2, ![R, 7936]⟩) o ![h, 128] inb).toLoadRect (ha.unread X)) c1) bitsLt_fp8e4m3_bf16)
        (truncf .bf16 (broadcastTo ⟨2, ![h, 128]⟩ (shapeCast ⟨2, ![h, 1]⟩ (shapeCast ⟨2, ![h, 1]⟩
          (s.view.readAt (Elt F) (Rect.unit (s := ⟨2, ![R, 62]⟩) o' ![h, 1] inb').toLoadRect (hs.unread S)) c2) c2) bc) bitsLt_bf16_f32)) c1 x
      = widen X S ((Rect.unit (s := ⟨2, ![R, 7936]⟩) o ![h, 128] inb).emb x) := by
  refine (congrFun (strip_casts _ _ bc c1 c2) x).trans ?_
  refine (congrArg (fun B => mulf (extf .bf16 _ _) (truncf .bf16 (broadcastTo ⟨2, ![h, 128]⟩ B bc) bitsLt_bf16_f32) x)
    (shapeCast_self (s := ⟨2, ![h, 1]⟩) _ c2)).trans ?_
  exact strip_eq ha hs X S e0 e1 bc x

/-- Stores of further rows below rows already stored. -/
theorem Strips.append {m : ℕ} {L' : List (View.Piece (Elt F) ⟨2, ![R, 7936]⟩ .bf16)} (hL : Strips G 0 m n L) (hL' : Strips G m h n L') :
    Strips G 0 (m + h) n (L' ++ L) where
  agree p hp x := by
    rcases List.mem_append.mp hp with hp | hp
    · exact hL'.agree p hp x
    · exact hL.agree p hp x
  cover y ha hb hc := by
    by_cases hy : (y 0).val < m
    · obtain ⟨p, hp, hm⟩ := hL.cover y (Nat.zero_le _) (by omega) hc
      exact ⟨p, List.mem_append_right _ hp, hm⟩
    · obtain ⟨p, hp, hm⟩ := hL'.cover y (by omega) (by omega) hc
      exact ⟨p, List.mem_append_left _ hp, hm⟩

/-- Before any row is stored. -/
theorem Strips.none : Strips G 0 0 n [] := ⟨by simp, fun y _ hy _ => by omega⟩

/-- A buffer whose strips are all stored reads as `G`, whatever it held before. -/
theorem Strips.read (hL : Strips G 0 R 62 L) {sg : RefSig} {κ : Kind} {sp : Space} (v : View sg κ sp ⟨2, ![R, 7936]⟩ .bf16)
    (f : v.ty.Contents (Elt F)) : v.read (Elt F) (v.writes (Elt F) f L) = G :=
  funext fun y => View.read_writes_apply_of_pieces v f G L hL.agree y
    (hL.cover y (Nat.zero_le _) (by have : (y 0).val < R := (y 0).isLt; omega) (by have : (y 1).val < 7936 := (y 1).isLt; omega))

/-- A load of the whole of it too. -/
theorem Strips.readAt (hL : Strips G 0 R 62 L) {sg : RefSig} {κ : Kind} {sp : Space} (v : View sg κ sp ⟨2, ![R, 7936]⟩ .bf16)
    (f : v.ty.Contents (Elt F))
    {inb : ∀ a, (![0, 0] : Fin 2 → ℕ) a + ![R, 7936] a ≤ (⟨2, ![R, 7936]⟩ : Shape).size a} :
    v.readAt (Elt F) (Rect.unit (s := ⟨2, ![R, 7936]⟩) ![0, 0] ![R, 7936] inb).toLoadRect (v.writes (Elt F) f L) = G := by
  funext y
  have e : (Rect.unit (s := ⟨2, ![R, 7936]⟩) ![0, 0] ![R, 7936] inb).toLoadRect.idx y = y := by
    funext a
    refine Fin.ext ?_
    match a with
    | ⟨0, _⟩ => show 0 + 1 * (y 0).val = (y 0).val; omega
    | ⟨1, _⟩ => show 0 + 1 * (y 1).val = (y 1).val; omega
  refine Eq.trans ?_ (congrFun (hL.read v f) y)
  exact congrArg _ e

/-- And after a buffer whose earlier contents are not named. -/
theorem Strips.readCov (hL : Strips G 0 R 62 L) {sg : RefSig} {κ : Kind} {sp : Space} (v : View sg κ sp ⟨2, ![R, 7936]⟩ .bf16)
    {inb : ∀ a, (![0, 0] : Fin 2 → ℕ) a + ![R, 7936] a ≤ (⟨2, ![R, 7936]⟩ : Shape).size a} :
    v.readCov L (Rect.unit (s := ⟨2, ![R, 7936]⟩) ![0, 0] ![R, 7936] inb).toLoadRect = G :=
  hL.readAt v v.junk

end Cert.KernelIdeal.Body

end
-- ==== Proof.Tile.lean ====
/- What one grid point stores: the tile of codes and the block of scales, as functions of the widened blocks. -/
module

public import proofs.«01_k».proof.Proof.Widen

@[expose] public section

set_option maxRecDepth 16384

noncomputable section

namespace Cert.KernelIdeal.Body

open Cert.KernelIdeal Cert.KernelIdeal.Gen Idealize.ShloMosaic Idealize.ShloMosaic.TcCoe Idealize.ShloMosaic.ValueIdx

variable {F : FTy → Type} [FloatOps F]

section stores

variable {sg : RefSig} {κ : Kind} {sp : Space} {e : EltTy} {R C : ℕ}

/-- The whole block is its own rectangle. -/
theorem whole_idx {inb : ∀ a, (![0, 0] : Fin 2 → ℕ) a + ![R, C] a ≤ (⟨2, ![R, C]⟩ : Shape).size a} (y : (⟨2, ![R, C]⟩ : Shape).Idx) :
    (Rect.unit (s := ⟨2, ![R, C]⟩) ![0, 0] ![R, C] inb).toLoadRect.idx y = y := by
  funext a
  refine Fin.ext ?_
  match a with
  | ⟨0, _⟩ => show 0 + 1 * (y 0).val = (y 0).val; omega
  | ⟨1, _⟩ => show 0 + 1 * (y 1).val = (y 1).val; omega

/-- A load of the whole buffer. -/
theorem load_whole {M : Memref sg κ sp ⟨2, ![R, C]⟩ e} (h : M.IsWhole) (X : Vec F ⟨2, ![R, C]⟩ e)
    {inb : ∀ a, (![0, 0] : Fin 2 → ℕ) a + ![R, C] a ≤ (⟨2, ![R, C]⟩ : Shape).size a} :
    M.view.readAt (Elt F) (Rect.unit (s := ⟨2, ![R, C]⟩) ![0, 0] ![R, C] inb).toLoadRect (h.unread X) = X :=
  funext fun y => (h.readAt_unread X _ y).trans (congrArg X (whole_idx y))

/-- A store of the whole buffer. -/
theorem store_whole (v : View sg κ sp ⟨2, ![R, C]⟩ e) (f : v.ty.Contents (Elt F)) (A : Vec F ⟨2, ![R, C]⟩ e)
    {inb : ∀ a, (![0, 0] : Fin 2 → ℕ) a + ![R, C] a ≤ (⟨2, ![R, C]⟩ : Shape).size a} :
    v.read (Elt F) (v.writes (Elt F) f [⟨Rect.unit (s := ⟨2, ![R, C]⟩) ![0, 0] ![R, C] inb, A⟩]) = A := by
  have e : ∀ y, (Rect.unit (s := ⟨2, ![R, C]⟩) ![0, 0] ![R, C] inb).emb y = y := fun y => whole_idx (inb := inb) y
  funext y
  refine View.read_writes_apply_of_pieces v f A _ ?_ y ⟨_, List.mem_singleton_self _, ?_⟩
  · intro p hp x
    obtain rfl := List.mem_singleton.mp hp
    exact (congrArg A (e x)).symm
  · rw [Rect.mem_set_unit]
    intro a
    match a with
    | ⟨0, _⟩ => exact ⟨Nat.zero_le _, by show (y 0).val < 0 + R; have : (y 0).val < R := (y 0).isLt; omega⟩
    | ⟨1, _⟩ => exact ⟨Nat.zero_le _, by show (y 1).val < 0 + C; have : (y 1).val < C := (y 1).isLt; omega⟩

/-- Two halves of 128 columns beside each other. -/
def halves (A B : Vec F ⟨2, ![1024, 128]⟩ e) : Vec F ⟨2, ![1024, 256]⟩ e := fun y =>
  if h : (y 1).val < 128 then A (ix2 (y 0) ⟨(y 1).val, h⟩)
  else B (ix2 (y 0) ⟨(y 1).val - 128, by have : (y 1).val < 256 := (y 1).isLt; omega⟩)

/-- A buffer whose two halves are stored. -/
theorem store_halves (v : View sg κ sp ⟨2, ![1024, 256]⟩ e) (f : v.ty.Contents (Elt F)) (A B : Vec F ⟨2, ![1024, 128]⟩ e)
    {inb : ∀ a, (![0, 0] : Fin 2 → ℕ) a + ![1024, 128] a ≤ (⟨2, ![1024, 256]⟩ : Shape).size a}
    {inb' : ∀ a, (![0, 128] : Fin 2 → ℕ) a + ![1024, 128] a ≤ (⟨2, ![1024, 256]⟩ : Shape).size a} :
    v.read (Elt F) (v.writes (Elt F) f [⟨Rect.unit (s := ⟨2, ![1024, 256]⟩) ![0, 128] ![1024, 128] inb', B⟩,
      ⟨Rect.unit (s := ⟨2, ![1024, 256]⟩) ![0, 0] ![1024, 128] inb, A⟩]) = halves A B := by
  funext y
  refine View.read_writes_apply_of_pieces v f (halves A B) _ ?_ y ?_
  · intro p hp x
    have hx : (x 1).val < 128 ∨ True := Or.inr trivial
    rcases List.mem_cons.mp hp with rfl | hp
    · have h : ¬ (128 + 1 * (x 1).val) < 128 := by omega
      refine Eq.trans ?_ (dif_neg h).symm
      refine congrArg B (funext fun a => Fin.ext ?_)
      match a with
      | ⟨0, _⟩ => show (x 0).val = 0 + 1 * (x 0).val; omega
      | ⟨1, _⟩ => show (x 1).val = 128 + 1 * (x 1).val - 128; omega
    · obtain rfl := List.mem_singleton.mp hp
      have hx : (x 1).val < 128 := (x 1).isLt
      have h : (0 + 1 * (x 1).val) < 128 := by omega
      refine Eq.trans ?_ (dif_pos h).symm
      refine congrArg A (funext fun a => Fin.ext ?_)
      match a with
      | ⟨0, _⟩ => show (x 0).val = 0 + 1 * (x 0).val; omega
      | ⟨1, _⟩ => show (x 1).val = 0 + 1 * (x 1).val; omega
  · have h0 : (y 0).val < 1024 := (y 0).isLt
    have h1 : (y 1).val < 256 := (y 1).isLt
    by_cases h : (y 1).val < 128
    · refine ⟨_, List.mem_cons_of_mem _ (List.mem_singleton_self _), ?_⟩
      rw [Rect.mem_set_unit]
      intro a
      match a with
      | ⟨0, _⟩ => exact ⟨Nat.zero_le _, by show (y 0).val < 0 + 1024; omega⟩
      | ⟨1, _⟩ => exact ⟨Nat.zero_le _, by show (y 1).val < 0 + 128; omega⟩
    · refine ⟨_, List.mem_cons_self, ?_⟩
      rw [Rect.mem_set_unit]
      intro a
      match a with
      | ⟨0, _⟩ => exact ⟨Nat.zero_le _, by show (y 0).val < 0 + 1024; omega⟩
      | ⟨1, _⟩ => exact ⟨by show 128 ≤ (y 1).val; omega, by show (y 1).val < 128 + 128; omega⟩

end stores

/-- The tile of h. -/
abbrev tileH (xb : Vec F S1024x7936 .bf16) (g u : Vec F S256x7936 .bf16) : FVec F S1024x256 .f32 := k0_pay258 xb g xb u

/-- The left group's quantiser argument: the group's largest magnitude over 448. -/
abbrev argLo (xb : Vec F S1024x7936 .bf16) (g u : Vec F S256x7936 .bf16) : FVec F S1024x1 .f32 := k0_pay263 (k0_pay261 xb g xb u) k0_pay262

/-- The left group's scale. -/
def scaleLo (xb : Vec F S1024x7936 .bf16) (g u : Vec F S256x7936 .bf16) : FVec F S1024x1 .f32 :=
  k0_pay267 (argLo xb g u) (k0_pay264 (k0_pay261 xb g xb u) k0_pay262) (k0_pay265 (k0_pay261 xb g xb u) k0_pay262) 8#32

/-- The left group's codes. -/
def codesLo (xb : Vec F S1024x7936 .bf16) (g u : Vec F S256x7936 .bf16) : FVec F S1024x128 .fp8e4m3 :=
  k0_pay270 (k0_pay260 xb g xb u)
    (k0_pay268 (argLo xb g u) (k0_pay264 (k0_pay261 xb g xb u) k0_pay262) (k0_pay265 (k0_pay261 xb g xb u) k0_pay262) 8#32) k0_pay269

/-- The right group's search up to its last step. -/
abbrev stepsHi (h : FVec F S1024x256 .f32) : IVec S1024x1 32 := k0_pay276 (k0_pay273 h) (k0_pay274 h) k0_pay275

/-- The right group's codes. -/
def codesHi (h : FVec F S1024x256 .f32) : FVec F S1024x128 .fp8e4m3 :=
  k0_pay2 (k0_pay272 h) (k0_pay279 (k0_pay273 h) (stepsHi h) k0_pay277) (k0_pay280 (k0_pay273 h) (stepsHi h) k0_pay277) k0_pay281

/-- The tile of codes. -/
def tileCodes (xb : Vec F S1024x7936 .bf16) (g u : Vec F S256x7936 .bf16) : Vec F S1024x256 .fp8e4m3 :=
  halves (codesLo xb g u) (codesHi (tileH xb g u))

/-- The block of scales after the point: `prev` with the lanes of the point's two groups replaced. -/
def tileScales (f : BitVec 32) (prev : Vec F S1024x52 .f32) (xb : Vec F S1024x7936 .bf16) (g u : Vec F S256x7936 .bf16) :
    Vec F S1024x52 .f32 :=
  k0_pay3 f (iota .tc S1024x52 32 [1] ) (k0_pay271 f (iota .tc S1024x52 32 [1]) (k0_pay259 prev) (scaleLo xb g u))
    (k0_pay279 (k0_pay273 (tileH xb g u)) (stepsHi (tileH xb g u)) k0_pay277)
    (k0_pay280 (k0_pay273 (tileH xb g u)) (stepsHi (tileH xb g u)) k0_pay277) k0_pay281

/-- Equal blocks give equal codes. -/
theorem tileCodes_congr {xb xb' : Vec F S1024x7936 .bf16} {g g' u u' : Vec F S256x7936 .bf16} (hx : xb = xb') (hg : g = g') (hu : u = u') :
    tileCodes xb g u = tileCodes xb' g' u' := by rw [hx, hg, hu]

/-- Equal blocks give equal scales. -/
theorem tileScales_congr (f : BitVec 32) {prev prev' : Vec F S1024x52 .f32} {xb xb' : Vec F S1024x7936 .bf16}
    {g g' u u' : Vec F S256x7936 .bf16} (hp : prev = prev') (hx : xb = xb') (hg : g = g') (hu : u = u') :
    tileScales f prev xb g u = tileScales f prev' xb' g' u' := by rw [hp, hx, hg, hu]

end Cert.KernelIdeal.Body

end
-- ==== Proof.Blocks.lean ====
/- The blocks of the six inputs at a grid point, at coordinates of the arrays they are cut from. -/
module

public import proofs.«01_k».proof.Proof.Points
public import proofs.«01_k».proof.Proof.Tile
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.ValueKit.Geometry
public import Idealize.ShloMosaic.Lib.Ring
public import Idealize.ShloMosaic.Lib.Tactic
public import Idealize.ShloMosaic.Lib.WordCmp
public import Idealize.ShloMosaic.Lib.Claim

@[expose] public section

-- a rectangle of the kernel's extents is looked into once per coordinate of its long axes
set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The row block of a point. -/
theorem coords_0 (t : Fin cfg0.N) : (grid0.coords t 0).val = t.val / 26 := by
  have ht : t.val < 832 := Nat.lt_of_lt_of_eq t.isLt N_0
  have e0 : (grid0.coords t 0).val = t.val / 26 % 32 := Pipeline.Grid.coords_val t 0 (by decide) rfl
  omega

/-- The column block of a point. -/
theorem coords_1 (t : Fin cfg0.N) : (grid0.coords t 1).val = t.val % 26 := by
  have e1 : (grid0.coords t 1).val = t.val / 1 % 26 := Pipeline.Grid.coords_val t 1 (by decide) rfl
  omega

theorem index_0 (t : Fin cfg0.N) : win0_0.index t = ![(grid0.coords t 0).val, 0] := by
  exact (by decide +kernel : ∀ t : Fin grid0.N, win0_0.index t = ![(grid0.coords t 0).val, 0]) t
theorem index_1 (t : Fin cfg0.N) : win0_1.index t = ![(grid0.coords t 0).val, 0] := by
  exact (by decide +kernel : ∀ t : Fin grid0.N, win0_1.index t = ![(grid0.coords t 0).val, 0]) t
theorem index_2 (t : Fin cfg0.N) : win0_2.index t = ![(grid0.coords t 1).val, 0] := by
  exact (by decide +kernel : ∀ t : Fin grid0.N, win0_2.index t = ![(grid0.coords t 1).val, 0]) t
theorem index_3 (t : Fin cfg0.N) : win0_3.index t = ![(grid0.coords t 1).val, 0] := by
  exact (by decide +kernel : ∀ t : Fin grid0.N, win0_3.index t = ![(grid0.coords t 1).val, 0]) t
theorem index_4 (t : Fin cfg0.N) : win0_4.index t = ![(grid0.coords t 1).val, 0] := by
  exact (by decide +kernel : ∀ t : Fin grid0.N, win0_4.index t = ![(grid0.coords t 1).val, 0]) t
theorem index_5 (t : Fin cfg0.N) : win0_5.index t = ![(grid0.coords t 1).val, 0] := by
  exact (by decide +kernel : ∀ t : Fin grid0.N, win0_5.index t = ![(grid0.coords t 1).val, 0]) t
theorem index_6 (t : Fin cfg0.N) : win0_6.index t = ![(grid0.coords t 0).val, (grid0.coords t 1).val] := by
  exact (by decide +kernel : ∀ t : Fin grid0.N, win0_6.index t = ![(grid0.coords t 0).val, (grid0.coords t 1).val]) t
theorem index_7 (t : Fin cfg0.N) : win0_7.index t = ![(grid0.coords t 0).val, 0] := by
  exact (by decide +kernel : ∀ t : Fin grid0.N, win0_7.index t = ![(grid0.coords t 0).val, 0]) t

/-- Row `y` of the point's block of activations, in the array. -/
def rowAt (t : Fin cfg0.N) (y : Fin 1024) : Fin 32768 :=
  ⟨t.val / 26 * 1024 + y.val, by have := Nat.lt_of_lt_of_eq t.isLt N_0; have := y.isLt; omega⟩

/-- Row `y` of the point's block of weights, in the array. -/
def colAt (t : Fin cfg0.N) (y : Fin 256) : Fin 6656 :=
  ⟨t.val % 26 * 256 + y.val, by have := Nat.mod_lt t.val (show 0 < 26 by decide); have := y.isLt; omega⟩

theorem iblk_0 (c : Dev nD) (t : Fin cfg0.N) (y : S1024x7936.Idx) :
    (iblk m c 0 t : Vec F S1024x7936 .fp8e4m3) y = V m c main_v3 (ix2 (rowAt t (y 0)) (y 1)) := by
  have e := coords_0 t
  blk_simp [iblk]
  refine congrArg (V m c main_v3) ?_
  funext a
  apply Fin.ext
  fin_cases a
  · blk_simp [index_0, e]
    rfl
  · blk_simp [index_0]
    rfl

theorem iblk_1 (c : Dev nD) (t : Fin cfg0.N) (y : S1024x62.Idx) :
    (iblk m c 1 t : Vec F S1024x62 .f32) y = V m c main_v4 (ix2 (rowAt t (y 0)) (y 1)) := by
  have e := coords_0 t
  blk_simp [iblk]
  refine congrArg (V m c main_v4) ?_
  funext a
  apply Fin.ext
  fin_cases a
  · blk_simp [index_1, e]
    rfl
  · blk_simp [index_1]
    rfl

theorem iblk_2 (c : Dev nD) (t : Fin cfg0.N) (y : S256x7936.Idx) :
    (iblk m c 2 t : Vec F S256x7936 .fp8e4m3) y = V m c main_v1 (ix2 (colAt t (y 0)) (y 1)) := by
  have e := coords_1 t
  blk_simp [iblk]
  refine congrArg (V m c main_v1) ?_
  funext a
  apply Fin.ext
  fin_cases a
  · blk_simp [index_2, e]
    rfl
  · blk_simp [index_2]
    rfl

theorem iblk_3 (c : Dev nD) (t : Fin cfg0.N) (y : S256x62.Idx) :
    (iblk m c 3 t : Vec F S256x62 .f32) y = V m c main_arg3 (ix2 (colAt t (y 0)) (y 1)) := by
  have e := coords_1 t
  blk_simp [iblk]
  refine congrArg (V m c main_arg3) ?_
  funext a
  apply Fin.ext
  fin_cases a
  · blk_simp [index_3, e]
    rfl
  · blk_simp [index_3]
    rfl

theorem iblk_4 (c : Dev nD) (t : Fin cfg0.N) (y : S256x7936.Idx) :
    (iblk m c 4 t : Vec F S256x7936 .fp8e4m3) y = V m c main_v2 (ix2 (colAt t (y 0)) (y 1)) := by
  have e := coords_1 t
  blk_simp [iblk]
  refine congrArg (V m c main_v2) ?_
  funext a
  apply Fin.ext
  fin_cases a
  · blk_simp [index_4, e]
    rfl
  · blk_simp [index_4]
    rfl

theorem iblk_5 (c : Dev nD) (t : Fin cfg0.N) (y : S256x62.Idx) :
    (iblk m c 5 t : Vec F S256x62 .f32) y = V m c main_arg5 (ix2 (colAt t (y 0)) (y 1)) := by
  have e := coords_1 t
  blk_simp [iblk]
  refine congrArg (V m c main_arg5) ?_
  funext a
  apply Fin.ext
  fin_cases a
  · blk_simp [index_5, e]
    rfl
  · blk_simp [index_5]
    rfl

end Cert.KernelIdeal.Body

end
-- ==== Proof.Scales.lean ====
/- The block of scales after a grid point, lane by lane: the point's two groups get their scales, every other lane is as found. -/
module

public import proofs.«01_k».proof.Proof.Tile

@[expose] public section

set_option maxRecDepth 16384

noncomputable section

namespace Cert.KernelIdeal.Body

open Cert.KernelIdeal Cert.KernelIdeal.Gen Idealize.ShloMosaic Idealize.ShloMosaic.TcCoe Idealize.ShloMosaic.ValueIdx

variable {F : FTy → Type} [FloatOps F]

/-- A column broadcast along any number of lanes. -/
theorem broadcast_lanes {α : Type} {h C : ℕ} (B : (⟨2, ![h, 1]⟩ : Shape).Idx → α) (bc : Shape.Broadcasts ⟨2, ![h, 1]⟩ ⟨2, ![h, C]⟩)
    (x : (⟨2, ![h, C]⟩ : Shape).Idx) : broadcastTo ⟨2, ![h, C]⟩ B bc x = B (ix2 (x 0) 0) := by
  unfold broadcastTo
  refine congrArg B (funext fun d => ?_)
  match d with
  | ⟨0, hd⟩ =>
    by_cases hh : (⟨2, ![h, 1]⟩ : Shape).size ⟨0, hd⟩ = 1
    · rw [dif_pos hh]
      refine Fin.ext ?_
      have h1 : h = 1 := hh
      have h2 : (x 0).val < h := (x 0).isLt
      show 0 = (x 0).val
      omega
    · rw [dif_neg hh]
      rfl
  | ⟨1, hd⟩ => exact dif_pos rfl

/-- The right group's scale. -/
def scaleHi (h : FVec F S1024x256 .f32) : FVec F S1024x1 .f32 :=
  bitcastToFloat .f32 (shli (addi (k0_pay1 (k0_pay279 (k0_pay273 h) (stepsHi h) k0_pay277) (k0_pay280 (k0_pay273 h) (stepsHi h) k0_pay277) k0_pay281)
    (broadcast S1024x1 127#32)) (broadcast S1024x1 23#32))

/-- One lane of a block of 52 replaced by a column. -/
theorem select_lane (B : FVec F S1024x1 .f32) (old : FVec F S1024x52 .f32) (w : BitVec 32) (k : ℕ) (hk : k < 52) (hw : w = BitVec.ofNat 32 k)
    (y : S1024x52.Idx) :
    select (cmpi .eq (iota .tc S1024x52 32 [1]) (broadcast S1024x52 w))
      (broadcastTo S1024x52 (shapeCast S1024x1 B shapeCasts_S1024x1_S1024x1) broadcasts_S1024x1_S1024x52) old y
      = if (y 1).val = k then B (ix2 (y 0) 0) else old y := by
  have hy : (y 1).val < 52 := (y 1).isLt
  have e1 : shapeCast S1024x1 B shapeCasts_S1024x1_S1024x1 = B := shapeCast_self _ _
  rw [e1]
  have e2 : broadcastTo S1024x52 B broadcasts_S1024x1_S1024x52 y = B (ix2 (y 0) 0) := broadcast_lanes B _ y
  have e3 : (iota .tc S1024x52 32 [1] : IVec S1024x52 32) y = BitVec.ofNat 32 (y 1).val :=
    congrArg (BitVec.ofNat 32) (show 0 * S1024x52.size 1 + (y 1).val = (y 1).val by omega)
  have e4 : (BitVec.ofNat 32 (y 1).val = BitVec.ofNat 32 k) ↔ (y 1).val = k := by
    constructor
    · intro h
      have := congrArg BitVec.toNat h
      simp only [BitVec.toNat_ofNat] at this
      omega
    · rintro h; rw [h]
  subst hw
  show Scalar.select (IntOp.cmpi .eq ((iota .tc S1024x52 32 [1] : IVec S1024x52 32) y) (BitVec.ofNat 32 k))
    (broadcastTo S1024x52 B broadcasts_S1024x1_S1024x52 y) (old y) = _
  rw [e2, e3]
  by_cases h : (y 1).val = k
  · rw [if_pos h, h]
    simp [Scalar.select, IntOp.cmpi]
  · rw [if_neg h]
    have h' : ¬ BitVec.ofNat 32 (y 1).val = BitVec.ofNat 32 k := fun h2 => h (e4.mp h2)
    have h2 : IntOp.cmpi .eq (BitVec.ofNat 32 (y 1).val) (BitVec.ofNat 32 k) = 0#1 :=
      congrArg BitVec.ofBool (beq_eq_false_iff_ne.mpr h')
    rw [h2]
    rfl

/-- A point's block of scales at an element: its two columns are new, the rest stay. -/
theorem tileScales_apply (f : ℕ) (hf : f < 26) (prev : Vec F S1024x52 .f32) (xb : Vec F S1024x7936 .bf16) (g u : Vec F S256x7936 .bf16)
    (y : S1024x52.Idx) :
    tileScales (BitVec.ofNat 32 f) prev xb g u y
      = if (y 1).val = 2 * f + 1 then scaleHi (tileH xb g u) (ix2 (y 0) 0)
        else if (y 1).val = 2 * f then scaleLo xb g u (ix2 (y 0) 0) else prev y := by
  have w1 : Scalar.addi (Scalar.muli (BitVec.ofNat 32 f) 2#32) 1#32 = BitVec.ofNat 32 (2 * f + 1) := by interval_cases f <;> rfl
  have w0 : Scalar.addi (Scalar.muli (BitVec.ofNat 32 f) 2#32) 0#32 = BitVec.ofNat 32 (2 * f) := by interval_cases f <;> rfl
  have e0 : k0_pay259 prev = prev := shapeCast_self _ _
  refine (select_lane (scaleHi (tileH xb g u)) (k0_pay271 (BitVec.ofNat 32 f) (iota .tc S1024x52 32 [1]) (k0_pay259 prev) (scaleLo xb g u)) _
    (2 * f + 1) (by omega) w1 y).trans ?_
  refine congrArg (fun z => if (y 1).val = 2 * f + 1 then scaleHi (tileH xb g u) (ix2 (y 0) 0) else z) ?_
  rw [e0]
  exact select_lane (scaleLo xb g u) prev _ (2 * f) (by omega) w0 y

end Cert.KernelIdeal.Body

end
-- ==== Proof.Chunks.lean ====
/- The chunks of 64 rows: what the counted loop over them leaves in the first scratch buffer is the widened block of activations. -/
module

public import proofs.«01_k».proof.Proof.Widen

@[expose] public section

set_option maxRecDepth 16384

noncomputable section

namespace Cert.KernelIdeal.Body

open Cert.KernelIdeal Cert.KernelIdeal.Gen Idealize.ShloMosaic Idealize.ShloMosaic.TcCoe Idealize.ShloMosaic.ValueIdx

variable {F : FTy → Type} [FloatOps F]

variable (𝒱 : Variants) (c : Dev nD) (bd : Option 𝒱.V) (i : grid0.Coords)
  (arg2 : Memref sig .tc .vmem S1024x7936 .fp8e4m3) (harg2 : arg2.IsWhole)
  (arg3 : Memref sig .tc .vmem S1024x62 .f32) (harg3 : arg3.IsWhole)
  (arg4 : Memref sig .tc .vmem S256x7936 .fp8e4m3) (harg4 : arg4.IsWhole)
  (arg5 : Memref sig .tc .vmem S256x62 .f32) (harg5 : arg5.IsWhole)
  (arg6 : Memref sig .tc .vmem S256x7936 .fp8e4m3) (harg6 : arg6.IsWhole)
  (arg7 : Memref sig .tc .vmem S256x62 .f32) (harg7 : arg7.IsWhole)
  (arg8 : Memref sig .tc .vmem S1024x256 .fp8e4m3) (harg8 : arg8.IsWhole)
  (arg9 : Memref sig .tc .vmem S1024x52 .f32) (harg9 : arg9.IsWhole)
  (arg10 : Memref sig .tc .vmem S1024x7936 .bf16) (harg10 : arg10.IsWhole)
  (arg11 : Memref sig .tc .vmem S256x7936 .bf16) (harg11 : arg11.IsWhole)
  (arg12 : Memref sig .tc .vmem S256x7936 .bf16) (harg12 : arg12.IsWhole)
  (k0_h1 : k0_cond1 i = 1#1) (x0 : Vec F S1024x7936 .fp8e4m3) (x1 : Vec F S1024x62 .f32)

/-- The loop makes sixteen trips. -/
theorem trips_eq : k0_t1_loop.trips = 16 := by decide

/-- A trip's rows begin at 64 times its number. -/
theorem row_eq (k : Fin k0_t1_loop.trips) : k0_off1 k 0 = 64 * k.val := by
  have hk : k.val < 16 := Nat.lt_of_lt_of_eq k.isLt trips_eq
  show (Scalar.muli (Scf.iv 0#32 1#32 k.val) 64#32).toNat = _
  simp only [Scf.iv, Scalar.muli]
  generalize k.val = n at hk
  interval_cases n <;> rfl

-- (sixty-two strips are checked)
set_option maxHeartbeats 4000000 in
/-- What one trip stores: sixty-two strips of its 64 rows. -/
theorem trip_strips (k : Fin k0_t1_loop.trips) :
    Strips (widen (R := 1024) x0 x1) (k0_off1 k 0) 64 62 (tripL_k0_t1 (F := F) 𝒱 c bd i arg2 harg2 arg3 harg3 arg4 harg4 arg5 harg5 arg6 harg6 arg7 harg7 arg8 harg8 arg9 harg9 arg10 harg10 arg11 harg11 arg12 harg12 k0_h1 (harg2.unread x0) (harg3.unread x1) k) := by
  unfold tripL_k0_t1 trip_k0_t1
  dsimp only
  repeat first
    | exact Strips.nil
    | refine Strips.cons (R := 1024) (h := 64) ?_ (strip_activations (R := 1024) (h := 64) harg2 harg3 x0 x1
        broadcasts_S64x1_S64x128 shapeCasts_S64x128_S64x128 shapeCasts_S64x1_S64x1 rfl rfl) rfl rfl

/-- The trips before the `k`-th store the rows before row `64 * k`. -/
theorem trips_strips (k : ℕ) (hk : k ≤ k0_t1_loop.trips) :
    Strips (widen (R := 1024) x0 x1) 0 (64 * k) 62 (pb_k0_t1 (F := F) 𝒱 c bd i arg2 harg2 arg3 harg3 arg4 harg4 arg5 harg5 arg6 harg6 arg7 harg7 arg8 harg8 arg9 harg9 arg10 harg10 arg11 harg11 arg12 harg12 k0_h1 (harg2.unread x0) (harg3.unread x1) k) := by
  induction k with
  | zero =>
    rw [pb_k0_t1.eq_1]
    exact Strips.none
  | succ k ih =>
    rw [pb_k0_t1_succ (k := ⟨k, hk⟩)]
    have h := trip_strips 𝒱 c bd i arg2 harg2 arg3 harg3 arg4 harg4 arg5 harg5 arg6 harg6 arg7 harg7 arg8 harg8 arg9 harg9 arg10 harg10 arg11 harg11 arg12 harg12 k0_h1 x0 x1 ⟨k, hk⟩
    rw [row_eq] at h
    exact (ih (Nat.le_of_succ_le hk)).append h

/-- All the trips together store the widened block. -/
theorem loop_strips :
    Strips (widen (R := 1024) x0 x1) 0 1024 62 (pb_k0_t1 (F := F) 𝒱 c bd i arg2 harg2 arg3 harg3 arg4 harg4 arg5 harg5 arg6 harg6 arg7 harg7 arg8 harg8 arg9 harg9 arg10 harg10 arg11 harg11 arg12 harg12 k0_h1 (harg2.unread x0) (harg3.unread x1) k0_t1_loop.trips) := by
  have h := trips_strips 𝒱 c bd i arg2 harg2 arg3 harg3 arg4 harg4 arg5 harg5 arg6 harg6 arg7 harg7 arg8 harg8 arg9 harg9 arg10 harg10 arg11 harg11 arg12 harg12 k0_h1 x0 x1 k0_t1_loop.trips (Nat.le_refl _)
  rwa [show 64 * k0_t1_loop.trips = 1024 by rw [trips_eq]] at h

end Cert.KernelIdeal.Body

end
-- ==== Proof.RunA.lean ====
/- The kernel's body at a point that widens its block of activations first. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import proofs.«01_k».proof.Proof.Points
public import proofs.«01_k».proof.Proof.Chunks
public import proofs.«01_k».proof.Proof.Tile
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

-- a rectangle of the kernel's extents is looked into once per coordinate of its long axes
set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2952000 in
/-- The body at a point that widens its block of activations first: it leaves the widened block in the scratch buffer, and leaves the point's tile of codes and the scales with the point's two lanes replaced. -/
theorem runA (c : Dev nD) (i : grid0.Coords) (arg2 : Memref sig .tc .vmem S1024x7936 .fp8e4m3) (harg2 : arg2.IsWhole) (arg3 : Memref sig .tc .vmem S1024x62 .f32) (harg3 : arg3.IsWhole) (arg4 : Memref sig .tc .vmem S256x7936 .fp8e4m3) (harg4 : arg4.IsWhole) (arg5 : Memref sig .tc .vmem S256x62 .f32) (harg5 : arg5.IsWhole) (arg6 : Memref sig .tc .vmem S256x7936 .fp8e4m3) (harg6 : arg6.IsWhole) (arg7 : Memref sig .tc .vmem S256x62 .f32) (harg7 : arg7.IsWhole) (arg8 : Memref sig .tc .vmem S1024x256 .fp8e4m3) (harg8 : arg8.IsWhole) (arg9 : Memref sig .tc .vmem S1024x52 .f32) (harg9 : arg9.IsWhole) (arg10 : Memref sig .tc .vmem S1024x7936 .bf16) (harg10 : arg10.IsWhole) (arg11 : Memref sig .tc .vmem S256x7936 .bf16) (harg11 : arg11.IsWhole) (arg12 : Memref sig .tc .vmem S256x7936 .bf16) (harg12 : arg12.IsWhole) (hc0 : cond0_0 i)
    (prev : Vec F S1024x52 .f32) (x0 : Vec F S1024x7936 .fp8e4m3) (x1 : Vec F S1024x62 .f32) (x2 : Vec F S256x7936 .fp8e4m3) (x3 : Vec F S256x62 .f32) (x4 : Vec F S256x7936 .fp8e4m3) (x5 : Vec F S256x62 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare prev ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (tileCodes (widen (R := 1024) x0 x1) (widen (R := 256) x2 x3) (widen (R := 256) x4 x5)) ∗ owns (c : Thread nD τ) arg9 fullShare (tileScales (BitVec.ofNat 32 (i 1).val) prev (widen (R := 1024) x0 x1) (widen (R := 256) x2 x3) (widen (R := 256) x4 x5)) ∗ owns (c : Thread nD τ) arg10 fullShare (widen (R := 1024) x0 x1) ∗ (∃ d, owns (c : Thread nD τ) arg11 fullShare d) ∗ (∃ d, owns (c : Thread nD τ) arg12 fullShare d)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K := by
    intro E K
    simp only [cc0_gate_up_eq_skeleton]; unfold cc0_gate_up_skel
    simp only [k0_part63_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0)
    sl_step
    have hX := loop_strips (F := F) Variants.none c none i arg2 harg2 arg3 harg3 arg4 harg4 arg5 harg5 arg6 harg6 arg7 harg7 arg8 harg8 arg9 harg9
      arg10 harg10 arg11 harg11 arg12 harg12 hc0 x0 x1
    have hG : Strips (widen (R := 256) x2 x3) 0 256 62 (runA.sl.HS1_62 c arg4 harg4 arg5 harg5 x2 x3) := by
      unfold runA.sl.HS1_62
      repeat first
        | exact Strips.nil
        | refine Strips.cons (R := 256) (h := 256) ?_ (strip_weights (R := 256) (h := 256) harg4 harg5 x2 x3
            broadcasts_S256x1_S256x128 shapeCasts_S256x128_S256x128 shapeCasts_S256x1_S256x1 rfl rfl) rfl rfl
    have hU : Strips (widen (R := 256) x4 x5) 0 256 62 (runA.sl.HS2_62 c arg6 harg6 arg7 harg7 x4 x5) := by
      unfold runA.sl.HS2_62
      repeat first
        | exact Strips.nil
        | refine Strips.cons (R := 256) (h := 256) ?_ (strip_weights (R := 256) (h := 256) harg6 harg7 x4 x5
            broadcasts_S256x1_S256x128 shapeCasts_S256x128_S256x128 shapeCasts_S256x1_S256x1 rfl rfl) rfl rfl
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      exact (store_halves _ _ _ _).trans (tileCodes_congr (hX.readAt arg10.view fs0) (hG.readCov arg11.view) (hU.readCov arg12.view))
    isplitl [H7]
    · iexists _; isplitr; swap; · iexact H7
      ipureintro
      exact (store_whole _ _ _).trans (tileScales_congr (BitVec.ofNat 32 (i 1).val) (load_whole harg9 prev) (hX.readAt arg10.view fs0)
        (hG.readCov arg11.view) (hU.readCov arg12.view))
    isplitl [HS0]
    · iexists _; isplitr; swap; · iexact HS0
      ipureintro
      exact hX.read arg10.view fs0
    isplitl [HS1]
    · iexists _, _; isplitr; swap; · iexact HS1
      ipureintro; rfl
    iexists _, _; isplitr; swap; · iexact HS2
    ipureintro; rfl

end Cert.KernelIdeal.Body

end
-- ==== Proof.RunB.lean ====
/- The kernel's body at a point whose block of activations is widened already. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import proofs.«01_k».proof.Proof.Points
public import proofs.«01_k».proof.Proof.Tile
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

-- a rectangle of the kernel's extents is looked into once per coordinate of its long axes
set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2912000 in
/-- The body at a point whose block of activations is widened already: it reads the widened block `xb` out of the scratch
    buffer and leaves it there, and leaves the point's tile of codes and the scales with the point's two lanes replaced. -/
theorem runB (c : Dev nD) (i : grid0.Coords) (arg2 : Memref sig .tc .vmem S1024x7936 .fp8e4m3) (harg2 : arg2.IsWhole) (arg3 : Memref sig .tc .vmem S1024x62 .f32) (harg3 : arg3.IsWhole) (arg4 : Memref sig .tc .vmem S256x7936 .fp8e4m3) (harg4 : arg4.IsWhole) (arg5 : Memref sig .tc .vmem S256x62 .f32) (harg5 : arg5.IsWhole) (arg6 : Memref sig .tc .vmem S256x7936 .fp8e4m3) (harg6 : arg6.IsWhole) (arg7 : Memref sig .tc .vmem S256x62 .f32) (harg7 : arg7.IsWhole) (arg8 : Memref sig .tc .vmem S1024x256 .fp8e4m3) (harg8 : arg8.IsWhole) (arg9 : Memref sig .tc .vmem S1024x52 .f32) (harg9 : arg9.IsWhole) (arg10 : Memref sig .tc .vmem S1024x7936 .bf16) (harg10 : arg10.IsWhole) (arg11 : Memref sig .tc .vmem S256x7936 .bf16) (harg11 : arg11.IsWhole) (arg12 : Memref sig .tc .vmem S256x7936 .bf16) (harg12 : arg12.IsWhole) (hc0 : ¬cond0_0 i)
    (xb : Vec F S1024x7936 .bf16) (prev : Vec F S1024x52 .f32) (x0 : Vec F S1024x7936 .fp8e4m3) (x1 : Vec F S1024x62 .f32) (x2 : Vec F S256x7936 .fp8e4m3) (x3 : Vec F S256x62 .f32) (x4 : Vec F S256x7936 .fp8e4m3) (x5 : Vec F S256x62 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare prev ∗ owns (c : Thread nD τ) arg10 fullShare xb ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (tileCodes xb (widen (R := 256) x2 x3) (widen (R := 256) x4 x5)) ∗ owns (c : Thread nD τ) arg9 fullShare (tileScales (BitVec.ofNat 32 (i 1).val) prev xb (widen (R := 256) x2 x3) (widen (R := 256) x4 x5)) ∗ owns (c : Thread nD τ) arg10 fullShare xb ∗ (∃ d, owns (c : Thread nD τ) arg11 fullShare d) ∗ (∃ d, owns (c : Thread nD τ) arg12 fullShare d)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K := by
    intro E K
    simp only [cc0_gate_up_eq_skeleton]; unfold cc0_gate_up_skel
    simp only [k0_part63_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | sl_exact hc0)
    sl_step
    have hG : Strips (widen (R := 256) x2 x3) 0 256 62 (runB.sl.HS1_62 c arg4 harg4 arg5 harg5 x2 x3) := by
      unfold runB.sl.HS1_62
      repeat first
        | exact Strips.nil
        | refine Strips.cons (R := 256) (h := 256) ?_ (strip_weights (R := 256) (h := 256) harg4 harg5 x2 x3
            broadcasts_S256x1_S256x128 shapeCasts_S256x128_S256x128 shapeCasts_S256x1_S256x1 rfl rfl) rfl rfl
    have hU : Strips (widen (R := 256) x4 x5) 0 256 62 (runB.sl.HS2_62 c arg6 harg6 arg7 harg7 x4 x5) := by
      unfold runB.sl.HS2_62
      repeat first
        | exact Strips.nil
        | refine Strips.cons (R := 256) (h := 256) ?_ (strip_weights (R := 256) (h := 256) harg6 harg7 x4 x5
            broadcasts_S256x1_S256x128 shapeCasts_S256x128_S256x128 shapeCasts_S256x1_S256x1 rfl rfl) rfl rfl
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      exact (store_halves _ _ _ _).trans (tileCodes_congr (load_whole harg10 xb) (hG.readCov arg11.view) (hU.readCov arg12.view))
    isplitl [H7]
    · iexists _; isplitr; swap; · iexact H7
      ipureintro
      exact (store_whole _ _ _).trans (tileScales_congr (BitVec.ofNat 32 (i 1).val) (load_whole harg9 prev) (load_whole harg10 xb)
        (hG.readCov arg11.view) (hU.readCov arg12.view))
    isplitl [HS0]
    · iexists _; isplitr; · ipureintro; exact harg10.read_unread _
      iexact HS0
    isplitl [HS1]
    · iexists _, _; isplitr; swap; · iexact HS1
      ipureintro; rfl
    iexists _, _; isplitr; swap; · iexact HS2
    ipureintro; rfl

end Cert.KernelIdeal.Body

end
-- ==== Proof.Launch.lean ====
/- The launch: what the body carries from point to point, what each point leaves in the two results, and the run. -/
module

public import proofs.«01_k».proof.Proof.Blocks
public import proofs.«01_k».proof.Proof.Scales
public import proofs.«01_k».proof.Proof.RunA
public import proofs.«01_k».proof.Proof.RunB
public import Idealize.ShloMosaic.Lib.Pipeline.DatRel
public import Idealize.ShloMosaic.Lib.Pipeline.ArrRel
public import proofs.«01_k».proof.Proof.Tile
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.ValueKit.Geometry
public import Idealize.ShloMosaic.Lib.Ring
public import Idealize.ShloMosaic.Lib.Tactic
public import Idealize.ShloMosaic.Lib.WordCmp
public import Idealize.ShloMosaic.Lib.Claim

@[expose] public section

-- a rectangle of the kernel's extents is looked into once per coordinate of its long axes
set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The widened activations of the point's block of rows. -/
def xblk (c : Dev nD) (t : Fin cfg0.N) : Vec F S1024x7936 .bf16 := widen (R := 1024) (iblk m c 0 t) (iblk m c 1 t)
/-- The widened gate weights of the point's tile. -/
def gblk (c : Dev nD) (t : Fin cfg0.N) : Vec F S256x7936 .bf16 := widen (R := 256) (iblk m c 2 t) (iblk m c 3 t)
/-- The widened up weights of the point's tile. -/
def ublk (c : Dev nD) (t : Fin cfg0.N) : Vec F S256x7936 .bf16 := widen (R := 256) (iblk m c 4 t) (iblk m c 5 t)

/-- The rows of a point depend on its block row alone. -/
theorem rowAt_congr {t t' : Fin cfg0.N} (h : t.val / 26 = t'.val / 26) (y : Fin 1024) : rowAt t y = rowAt t' y := by
  unfold rowAt; simp only [h]

/-- The widened activations are the same along a block row. -/
theorem xblk_congr (c : Dev nD) {t t' : Fin cfg0.N} (h : t.val / 26 = t'.val / 26) : xblk m c t = xblk m c t' := by
  unfold xblk
  have e0 : (iblk m c 0 t : Vec F S1024x7936 .fp8e4m3) = (iblk m c 0 t' : Vec F S1024x7936 .fp8e4m3) := funext fun (y : S1024x7936.Idx) =>
    (iblk_0 m c t y).trans ((congrArg (fun r => V m c main_v3 (ix2 r (y 1))) (rowAt_congr h (y 0))).trans (iblk_0 m c t' y).symm)
  have e1 : (iblk m c 1 t : Vec F S1024x62 .f32) = (iblk m c 1 t' : Vec F S1024x62 .f32) := funext fun (y : S1024x62.Idx) =>
    (iblk_1 m c t y).trans ((congrArg (fun r => V m c main_v4 (ix2 r (y 1))) (rowAt_congr h (y 0))).trans (iblk_1 m c t' y).symm)
  exact congr (congrArg (widen (R := 1024)) e0) e1

/-- What the scratch of widened activations holds before point `k`: between two points of a block row, that row's. -/
def carried (c : Dev nD) (k : ℕ) (d : Vec F S1024x7936 .bf16) : Prop :=
  ∀ t : Fin cfg0.N, t.val + 1 = k → k % 26 ≠ 0 → d = xblk m c t

/-- The outputs' windows, whose contents are known by what is true of them. -/
def rel0 : Fin 8 → Bool := fun w => w.val == 6 || w.val == 7

/-- The block of scales has, after point `t`, the scales of the point's block row up to its tile. -/
def scalesUpTo (c : Dev nD) (t : Fin cfg0.N) (X : Vec F S1024x52 .f32) : Prop :=
  ∀ t' : Fin cfg0.N, t'.val ≤ t.val → t'.val / 26 = t.val / 26 → ∀ y : S1024x52.Idx,
    ((y 1).val = 2 * (t'.val % 26) + 1 → X y = scaleHi (tileH (xblk m c t') (gblk m c t') (ublk m c t')) (ix2 (y 0) 0))
    ∧ ((y 1).val = 2 * (t'.val % 26) → X y = scaleLo (xblk m c t') (gblk m c t') (ublk m c t') (ix2 (y 0) 0))

/-- What the body leaves in the two results at a point. -/
def left0 (c : Dev nD) : (w : Fin cfg0.W) → Fin cfg0.N → ((cfg0.win w).block.Idx → Elt F (cfg0.win w).elt) → Prop
  | ⟨6, _⟩, t, X => X = tileCodes (xblk m c t) (gblk m c t) (ublk m c t)
  | ⟨7, _⟩, t, X => scalesUpTo m c t X
  | _, _, _ => True

/-- The invariant before point `k`. -/
def inv (c : Dev nD) (k : ℕ) : sProp 𝕄 :=
  iprop(((∃ d, ⌜carried m c k d⌝ ∗ owns (c : Thread nD τ) scM0_0 fullShare d) ∗ (∃ d, owns (c : Thread nD τ) scM0_1 fullShare d)
    ∗ (∃ d, owns (c : Thread nD τ) scM0_2 fullShare d)) ∗ ∃ r, prngReg c r)

/-- The proof data: the arrays as the region finds them, each input's buffer at its block after every point, the outputs left to `left0`,
    and the invariant that carries the widened activations along a block row. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ k := inv m c k.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The relational data. -/
abbrev rdats (c : Dev nD) : Pipeline.RDat τ (Elt F) Unit ℕ (UR sig nD τ) ℕ cfg0 c := (dats m 0 c).toRRel rel0 (left0 m c)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdats m c).Finds 6 t Y⌝ ∗ owns (c : Thread nD τ) (ms0_6 t) fullShare Y)
    ∗ (∃ Y, ⌜(rdats m c).Finds 7 t Y⌝ ∗ owns (c : Thread nD τ) (ms0_7 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜left0 m c 6 t X⌝ ∗ owns (c : Thread nD τ) (ms0_6 t) fullShare X)
    ∗ (∃ X, ⌜left0 m c 7 t X⌝ ∗ owns (c : Thread nD τ) (ms0_7 t) fullShare X))

/-- The tile coordinate handed to the body. -/
theorem tile_word (t : Fin cfg0.N) : BitVec.ofNat 32 (grid0.coords t 1).val = BitVec.ofNat 32 (t.val % 26) := by rw [coords_1]

/-- The scales after a point, from those before it. -/
theorem scales_step (c : Dev nD) (t : Fin cfg0.N) (prev : Vec F S1024x52 .f32)
    (hprev : t.val % 26 ≠ 0 → ∀ t₁ : Fin cfg0.N, t₁.val + 1 = t.val → scalesUpTo m c t₁ prev) :
    scalesUpTo m c t (tileScales (BitVec.ofNat 32 (grid0.coords t 1).val) prev (xblk m c t) (gblk m c t) (ublk m c t)) := by
  intro t' hle hrow y
  rw [tile_word, tileScales_apply _ (Nat.mod_lt _ (by decide))]
  by_cases ht : t' = t
  · subst ht
    exact ⟨fun h => by rw [if_pos h], fun h => by rw [if_neg (by omega), if_pos h]⟩
  · have hlt : t'.val < t.val := lt_of_le_of_ne hle fun h => ht (Fin.ext h)
    have hne : t.val % 26 ≠ 0 := by omega
    have h26 : t'.val % 26 < t.val % 26 := by omega
    have := hprev hne ⟨t.val - 1, by have := t.isLt; omega⟩ (by show t.val - 1 + 1 = t.val; omega) t' (by show t'.val ≤ t.val - 1; omega)
      (by show t'.val / 26 = (t.val - 1) / 26; omega) y
    exact ⟨fun h => by rw [if_neg (by omega), if_neg (by omega)]; exact this.1 h,
      fun h => by rw [if_neg (by omega), if_neg (by omega)]; exact this.2 h⟩

/-- What the body finds in the block of scales within a block row. -/
theorem scales_found (c : Dev nD) (t : Fin cfg0.N) (Y : Vec F S1024x52 .f32) (hY : (rdats m c).Finds 7 t Y) (hne : t.val % 26 ≠ 0)
    (t₁ : Fin cfg0.N) (h₁ : t₁.val + 1 = t.val) : scalesUpTo m c t₁ Y := by
  have hf : (cfg0.win 7).fetch t = false := rfl
  obtain rfl : t₁ = ⟨t.val - 1, Nat.lt_of_le_of_lt (Nat.sub_le _ _) t.isLt⟩ := Fin.ext (by show t₁.val = t.val - 1; omega)
  rcases ((rdats m c).finds_of_pos hf (by omega) Y).mp hY with h | h
  · rw [flush0_7] at h
    have h' : (t.val - 1) % 26 = 25 := by simpa using h
    omega
  · exact (dats m 0 c).toRRel_leaves (fgt := rel0) (Rl := left0 m c) (w := 7) rfl h

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.castSucc = inv m c t.val from rfl, show (dats m 0 c).Φ t.succ = inv m c (t.val + 1) from rfl]
  unfold inv
  have hc : carried m c (t.val + 1) (xblk m c t) := fun t' h _ => by rw [show t' = t from Fin.ext (by omega)]
  have hs : ∀ Y, (rdats m c).Finds 7 t Y → scalesUpTo m c t (tileScales (BitVec.ofNat 32 (grid0.coords t 1).val) Y (xblk m c t) (gblk m c t) (ublk m c t)) :=
    fun Y hY => scales_step m c t Y fun hne t₁ h₁ => scales_found m c t Y hY hne t₁ h₁
  by_cases h0 : t.val % 26 = 0
  · iintro ⟨⟨⟨⟨%xs, %hxs, HS0⟩, HS1, HS2⟩, Hg⟩, Ho, ⟨%d0, H0⟩, ⟨%d1, H1⟩, ⟨%d2, H2⟩, ⟨%d3, H3⟩, ⟨%d4, H4⟩, ⟨%d5, H5⟩, ⟨%d6, -, H6⟩, ⟨%d7, %h7, H7⟩⟩
    iapply ((runA c (grid0.coords t) _ _ _ _ _ _ _ _ _ _ _ _ _ _ _ _ _ _ _ _ _ _ ((hcond0_0 t).mpr h0) d7 (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexists _; iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexists _
          isplitr; · ipureintro; exact hc
          iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _
      isplitr; · ipureintro; exact rfl
      iexact H6
    iexists _
    isplitr; · ipureintro; exact hs d7 h7
    iexact H7
  · iintro ⟨⟨⟨⟨%xs, %hxs, HS0⟩, HS1, HS2⟩, Hg⟩, Ho, ⟨%d0, H0⟩, ⟨%d1, H1⟩, ⟨%d2, H2⟩, ⟨%d3, H3⟩, ⟨%d4, H4⟩, ⟨%d5, H5⟩, ⟨%d6, -, H6⟩, ⟨%d7, %h7, H7⟩⟩
    obtain rfl : xs = xblk m c t := (hxs ⟨t.val - 1, by have := t.isLt; omega⟩ (by show t.val - 1 + 1 = t.val; omega) h0).trans
      (xblk_congr m c (by show (t.val - 1) / 26 = t.val / 26; omega))
    iapply ((runB c (grid0.coords t) _ _ _ _ _ _ _ _ _ _ _ _ _ _ _ _ _ _ _ _ _ _ (fun h => h0 ((hcond0_0 t).mp h)) (xblk m c t) d7 (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexists _
          isplitr; · ipureintro; exact hc
          iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _
      isplitr; · ipureintro; exact rfl
      iexact H6
    iexists _
    isplitr; · ipureintro; exact hs d7 h7
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) :
    Pipeline.BodyObligationRel (dats (F := F) m 0 c) (defs₀ (F := F)) Variants.none () Set.univ rel0 (left0 m c) := fun t => by
  rw [bigSep_W0, bigSep_W0, defs₀_row]
  exact triple_restated (sound_body m c t) rfl .rfl fun _ => .rfl

/-- The class's invariant enters at the first point: nothing is carried there. -/
theorem inv_enter (c : Dev nD) : Pipeline.ΦA spec0 c ⊢ inv m c 0 := by
  rw [PhiA0_eq]
  unfold inv
  iintro ⟨⟨⟨%d, HS0⟩, HS1, HS2⟩, Hg⟩
  isplitl [HS0 HS1 HS2]
  · isplitl [HS0]
    · iexists d
      isplitr; · ipureintro; exact fun t h _ => absurd h (Nat.succ_ne_zero _)
      iexact HS0
    isplitl [HS1]
    · iexact HS1
    iexact HS2
  iexact Hg

/-- It is returned after the last. -/
theorem inv_leave (c : Dev nD) (k : ℕ) : inv m c k ⊢ Pipeline.ΦA spec0 c := by
  rw [PhiA0_eq]
  unfold inv
  iintro ⟨⟨⟨%d, -, HS0⟩, HS1, HS2⟩, Hg⟩
  isplitl [HS0 HS1 HS2]
  · isplitl [HS0]
    · iexists d
      iexact HS0
    isplitl [HS1]
    · iexact HS1
    iexact HS2
  iexact Hg

/-- The launch at relational data, for any exact data of the pipeline. -/
theorem launch_of (D : (p : Fin 1) → (c : Dev nD) → Dat τ (Elt F) Unit ℕ (UR sig nD τ) ℕ (cfgs p) c) (fgt : Fin 8 → Bool)
    (Rl : (c : Dev nD) → (w : Fin cfg0.W) → Fin cfg0.N → ((cfg0.win w).block.Idx → Elt F (cfg0.win w).elt) → Prop)
    (hbody : ∀ c, Pipeline.BodyObligationRel (D 0 c) (defs₀ (F := F)) Variants.none () Set.univ fgt (Rl c))
    (hshare : ∀ c w, (D 0 c).share w = fullShare) (howed : ∀ c t, (D 0 c).owed t = 0)
    (hA : ∀ c w, (D 0 c).A w = V m c (Pipeline.arrRef spec0 w))
    (hin : ∀ c, Pipeline.ΦA spec0 c ⊢ (D 0 c).Φ 0) (hout : ∀ c, (D 0 c).Φ (Fin.last cfg0.N) ⊢ Pipeline.ΦA spec0 c) :
    θ_run defs (onTc (τ := τ) (main (F := F))) (s₀ m ρ)
      (fun r => Pipeline.RDat.FramePost (cfgs 0) (fun c => (D 0 c).toRRel fgt (Rl c)) (V m) r ∧ r.2.sem = fun _ => 0) :=
  Pipeline.RDat.θ_run_frame_track (Q' := _) cfgs (0 : Fin 1) launch0 defs₀ Variants.none (fun c => (D 0 c).toRRel fgt (Rl c)) m ρ main
    (fun c => (hbody c).toRRel) hshare howed (V m) (hmain m Variants.none) hA hin hout

/-- The run: every array holds what the relational data allow, and every semaphore counter ends at zero. -/
theorem run_main_quiescent : θ_run defs (onTc (τ := τ) (main (F := F))) (s₀ m ρ)
    (fun r => Pipeline.RDat.FramePost (cfgs 0) (rdats m) (V m) r ∧ r.2.sem = fun _ => 0) :=
  launch_of m ρ (dats m) rel0 (left0 m) (body_obligation m) (fun c => (dats m 0 c).share_full fun _ => rfl) (fun _ _ => rfl)
    (A_eq m) (inv_enter m) (fun c => inv_leave m c _)

/-- The run without the counters. -/
theorem run_main : θ_run defs (onTc (τ := τ) (main (F := F))) (s₀ m ρ) (Pipeline.RDat.FramePost (cfgs 0) (rdats m) (V m)) :=
  (θ_run defs _ _).mono (fun _ h => h.1) (run_main_quiescent m ρ)

/-- The argument arrays end unchanged, from a run to the library's post. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      ((h c).2 main_arg4 (Pipeline.mem_restRefs_of main_arg4 (by decide) (by decide))).trans (V_main_arg4 m c),
      (Pipeline.RDat.FramePost.arr_in h c 5 rfl).trans ((hA c 5).trans (V_main_arg5 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (rdats m) (A_eq m) (run_main m ρ)

/-- The frame, with every counter at zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Body

end
-- ==== Proof.Final.lean ====
/- The two results after the run, element by element: each from the grid point whose tile the element lies in. -/
module

public import proofs.«01_k».proof.Proof.Launch
public import proofs.«01_k».proof.Proof.Scales
public import proofs.«01_k».proof.Proof.RunA
public import proofs.«01_k».proof.Proof.RunB
public import Idealize.ShloMosaic.Lib.Pipeline.DatRel
public import Idealize.ShloMosaic.Lib.Pipeline.ArrRel
public import proofs.«01_k».proof.Proof.Tile
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.ValueKit.Geometry
public import Idealize.ShloMosaic.Lib.Ring
public import Idealize.ShloMosaic.Lib.Tactic
public import Idealize.ShloMosaic.Lib.WordCmp
public import Idealize.ShloMosaic.Lib.Claim

@[expose] public section

-- a rectangle of the kernel's extents is looked into once per coordinate of its long axes
set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The grid point of block row `a` and tile `b`. -/
def pointOf (a b : ℕ) (ha : a < 32) (hb : b < 26) : Fin cfg0.N := ⟨a * 26 + b, by have e : cfg0.N = 832 := N_0; omega⟩

/-- The point whose tile an element of the codes lies in. -/
def codePoint (z : S32768x6656.Idx) : Fin cfg0.N :=
  pointOf ((z 0).val / 1024) ((z 1).val / 256) (by have : (z 0).val < 32768 := (z 0).isLt; omega) (by have : (z 1).val < 6656 := (z 1).isLt; omega)

/-- The point that writes an element of the scales. -/
def scalePoint (z : S32768x52.Idx) : Fin cfg0.N :=
  pointOf ((z 0).val / 1024) ((z 1).val / 2) (by have : (z 0).val < 32768 := (z 0).isLt; omega) (by have : (z 1).val < 52 := (z 1).isLt; omega)

/-- A row within its block. -/
def rowIn (r : Fin 32768) : Fin 1024 := ⟨r.val % 1024, Nat.mod_lt _ (by decide)⟩
/-- A column within its tile. -/
def colIn (j : Fin 6656) : Fin 256 := ⟨j.val % 256, Nat.mod_lt _ (by decide)⟩

/-- The codes. -/
def codes (c : Dev nD) : Vec F S32768x6656 .fp8e4m3 := fun z =>
  tileCodes (xblk m c (codePoint z)) (gblk m c (codePoint z)) (ublk m c (codePoint z)) (ix2 (rowIn (z 0)) (colIn (z 1)))

/-- The scales. -/
def scales (c : Dev nD) : Vec F S32768x52 .f32 := fun z =>
  if (z 1).val % 2 = 0 then scaleLo (xblk m c (scalePoint z)) (gblk m c (scalePoint z)) (ublk m c (scalePoint z)) (ix2 (rowIn (z 0)) 0)
  else scaleHi (tileH (xblk m c (scalePoint z)) (gblk m c (scalePoint z)) (ublk m c (scalePoint z))) (ix2 (rowIn (z 0)) 0)

/-- The codes at an element of a point's tile. -/
theorem codes_at (c : Dev nD) (t : Fin cfg0.N) (y : S1024x256.Idx) (z : S32768x6656.Idx)
    (h0 : (z 0).val = t.val / 26 * 1024 + (y 0).val) (h1 : (z 1).val = t.val % 26 * 256 + (y 1).val) :
    codes m c z = tileCodes (xblk m c t) (gblk m c t) (ublk m c t) y := by
  have b0 : (y 0).val < 1024 := (y 0).isLt
  have b1 : (y 1).val < 256 := (y 1).isLt
  have ht : codePoint z = t := Fin.ext (by show (z 0).val / 1024 * 26 + (z 1).val / 256 = t.val; omega)
  have hr : rowIn (z 0) = y 0 := Fin.ext (by show (z 0).val % 1024 = (y 0).val; omega)
  have hc : colIn (z 1) = y 1 := Fin.ext (by show (z 1).val % 256 = (y 1).val; omega)
  unfold codes
  rw [ht, hr, hc]
  exact congrArg _ (eq_ix2 y).symm

/-- The scales at an element of a block row that the last tile has left. -/
theorem scales_at (c : Dev nD) (t : Fin cfg0.N) (hl : t.val % 26 = 25) (X : Vec F S1024x52 .f32) (hX : scalesUpTo m c t X)
    (y : S1024x52.Idx) (z : S32768x52.Idx) (h0 : (z 0).val = t.val / 26 * 1024 + (y 0).val) (h1 : (z 1).val = (y 1).val) :
    X y = scales m c z := by
  have b0 : (y 0).val < 1024 := (y 0).isLt
  have b1 : (y 1).val < 52 := (y 1).isLt
  have hv : (scalePoint z).val = t.val / 26 * 26 + (y 1).val / 2 := by
    show (z 0).val / 1024 * 26 + (z 1).val / 2 = _; omega
  have hr : rowIn (z 0) = y 0 := Fin.ext (by show (z 0).val % 1024 = (y 0).val; omega)
  have h := hX (scalePoint z) (by omega) (by omega) y
  unfold scales
  rw [hr]
  by_cases hp : (z 1).val % 2 = 0
  · rw [if_pos hp]; exact h.2 (by omega)
  · rw [if_neg hp]; exact h.1 (by omega)

/-- The blocks of codes cover their array. -/
theorem covers_6 : (cfg0.win 6).Covers := by decide +kernel
/-- The blocks of scales cover theirs. -/
theorem covers_7 : (cfg0.win 7).Covers := by decide +kernel

/-- Where an element of a block of codes lies. -/
theorem emb_6 (t : Fin cfg0.N) (y : S1024x256.Idx) :
    ((((cfg0.win 6).blk t).view.emb y : S32768x6656.Idx) 0).val = t.val / 26 * 1024 + (y 0).val
      ∧ ((((cfg0.win 6).blk t).view.emb y : S32768x6656.Idx) 1).val = t.val % 26 * 256 + (y 1).val := by
  have e := coords_0 t
  have e' := coords_1 t
  constructor
  · blk_simp [index_6, e, e']
  · blk_simp [index_6, e, e']

/-- Where an element of a block of scales lies. -/
theorem emb_7 (t : Fin cfg0.N) (y : S1024x52.Idx) :
    ((((cfg0.win 7).blk t).view.emb y : S32768x52.Idx) 0).val = t.val / 26 * 1024 + (y 0).val
      ∧ ((((cfg0.win 7).blk t).view.emb y : S32768x52.Idx) 1).val = (y 1).val := by
  have e := coords_0 t
  constructor
  · blk_simp [index_7, e]
  · blk_simp [index_7, e]

section arrays

variable {c : Dev nD} {after : (w : Fin cfg0.W) → Fin cfg0.N → (cfg0.win w).block.Idx → Elt F (cfg0.win w).elt}

/-- The codes after the run. -/
theorem final_6 (h : ∀ u : Fin cfg0.N, (cfg0.win 6).flush u = true → left0 m c 6 u (after 6 u)) :
    ((rdats m c).withAfter after).arrAt 6 cfg0.N = codes m c := by
  refine Dat.arrAt_eq_of_covers _ 6 _ covers_6 fun t hf y => ?_
  have h6 : after 6 t = tileCodes (xblk m c t) (gblk m c t) (ublk m c t) := h t hf
  refine Eq.trans ?_ (codes_at m c t y _ (emb_6 t y).1 (emb_6 t y).2).symm
  exact congrFun h6 y

/-- The scales after the run. -/
theorem final_7 (h : ∀ u : Fin cfg0.N, (cfg0.win 7).flush u = true → left0 m c 7 u (after 7 u)) :
    ((rdats m c).withAfter after).arrAt 7 cfg0.N = scales m c := by
  refine Dat.arrAt_eq_of_covers _ 7 _ covers_7 fun t hf y => ?_
  have hl : t.val % 26 = 25 := by rw [flush0_7] at hf; simpa using hf
  exact scales_at m c t hl (after 7 t) (h t hf) y _ (emb_7 t y).1 (emb_7 t y).2

end arrays

/-- The run, with the two results named. -/
theorem run_values : θ_run defs (onTc (τ := τ) (main (F := F))) ⟨m, fun _ => 0, ρ⟩ fun r => ∀ c : Dev nD,
      (r.2.mem ((c.tc : Thread nD τ).loc main_v5_0) = codes m c ∧ r.2.mem ((c.tc : Thread nD τ).loc main_v5_1) = scales m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have h1 : θ_run defs (onTc (τ := τ) (main (F := F))) ⟨m, fun _ => 0, ρ⟩ fun r => ∀ c : Dev nD,
      (r.2.mem ((c.tc : Thread nD τ).loc main_v5_0) = codes m c ∧ r.2.mem ((c.tc : Thread nD τ).loc main_v5_1) = scales m c) := by
    refine (θ_run defs _ _).mono (fun r h c => ?_) (run_main m ρ)
    obtain ⟨after, hl, ha⟩ := Pipeline.RDat.FramePost.exists_exact h c
    exact ⟨(ha 6).trans (final_6 m fun u hf => (dats m 0 c).toRRel_leaves (fgt := rel0) (Rl := left0 m c) (w := 6) rfl (hl 6 u hf)),
      (ha 7).trans (final_7 m fun u hf => (dats m 0 c).toRRel_leaves (fgt := rel0) (Rl := left0 m c) (w := 7) rfl (hl 7 u hf))⟩
  exact (θ_run defs _ _).mono (fun r h c => ⟨h.1 c, h.2 c⟩) (θ_run_and h1 (unchanged m ρ))

end Cert.KernelIdeal.Body

end
-- ==== Proof.ReferenceArrays.lean ====
/- The reference's two result arrays after its run. -/
module

public import proofs.«01_k».proof.Proof.Gen.ReferenceIdeal.Value
public import Idealize.ShloMosaic.Lib.Pipeline.DatRel
public import Idealize.ShloMosaic.Lib.Pipeline.ArrRel
public import Idealize.ShloMosaic.Lib.Pipeline.ValueKit.Geometry
public import Idealize.ShloMosaic.Lib.Pipeline.ValueKit.Basic
public import Idealize.ShloMosaic.Lib.Tactic
public import Idealize.ShloMosaic.Lib.Claim

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

/-! A window's one block is the whole array. -/

theorem block_0 (c : Dev nD) (t : Fin cfg0.N) : (iblk m c 0 t : Vec F S32768x7936 .fp8e4m3) = V m c main_v3 := by
  funext y
  blk_simp [iblk]
  refine congrArg (V m c main_v3) (funext fun a => Fin.ext ?_)
  show 0 * _ + 1 * (y a).val = (y a).val
  omega

theorem block_1 (c : Dev nD) (t : Fin cfg0.N) : (iblk m c 1 t : Vec F S32768x62 .f32) = V m c main_v4 := by
  funext y
  blk_simp [iblk]
  refine congrArg (V m c main_v4) (funext fun a => Fin.ext ?_)
  show 0 * _ + 1 * (y a).val = (y a).val
  omega

theorem block_2 (c : Dev nD) (t : Fin cfg0.N) : (iblk m c 2 t : Vec F S6656x7936 .fp8e4m3) = V m c main_v1 := by
  funext y
  blk_simp [iblk]
  refine congrArg (V m c main_v1) (funext fun a => Fin.ext ?_)
  show 0 * _ + 1 * (y a).val = (y a).val
  omega

theorem block_3 (c : Dev nD) (t : Fin cfg0.N) : (iblk m c 3 t : Vec F S6656x62 .f32) = V m c main_arg3 := by
  funext y
  blk_simp [iblk]
  refine congrArg (V m c main_arg3) (funext fun a => Fin.ext ?_)
  show 0 * _ + 1 * (y a).val = (y a).val
  omega

theorem block_4 (c : Dev nD) (t : Fin cfg0.N) : (iblk m c 4 t : Vec F S6656x7936 .fp8e4m3) = V m c main_v2 := by
  funext y
  blk_simp [iblk]
  refine congrArg (V m c main_v2) (funext fun a => Fin.ext ?_)
  show 0 * _ + 1 * (y a).val = (y a).val
  omega

theorem block_5 (c : Dev nD) (t : Fin cfg0.N) : (iblk m c 5 t : Vec F S6656x62 .f32) = V m c main_arg5 := by
  funext y
  blk_simp [iblk]
  refine congrArg (V m c main_arg5) (funext fun a => Fin.ext ?_)
  show 0 * _ + 1 * (y a).val = (y a).val
  omega

/-- What the reference's body stores as codes. -/
theorem out_6 (x0 : Vec F S32768x7936 .fp8e4m3) (x1 : Vec F S32768x62 .f32) (x2 : Vec F S6656x7936 .fp8e4m3) (x3 : Vec F S6656x62 .f32)
    (x4 : Vec F S6656x7936 .fp8e4m3) (x5 : Vec F S6656x62 .f32) :
    out0_6 x0 x1 x2 x3 x4 x5 = k0_pay3 (k0_pay4 x0 x1 x2 x3 x4 x5) (k0_pay5 x0 x1 x2 x3 x4 x5)
      (iota .tc S32768x52x252 32 [2] iota_S32768x52x252_d2_w32) k0_pay6 := by
  unfold_out out0_6
  have h0 : ∀ (x : Vec F S32768x7936 .fp8e4m3), View.ld x r0_0 = x := fun x => View.ld_unit_lit _ x (by decide)
  have h1 : ∀ (x : Vec F S32768x62 .f32), View.ld x r0_1 = x := fun x => View.ld_unit_lit _ x (by decide)
  have h2 : ∀ (x : Vec F S6656x7936 .fp8e4m3), View.ld x r0_2 = x := fun x => View.ld_unit_lit _ x (by decide)
  have h3 : ∀ (x : Vec F S6656x62 .f32), View.ld x r0_3 = x := fun x => View.ld_unit_lit _ x (by decide)
  rw [h0, h1, h2, h3, h2, h3]
  exact View.canon_cons_unit_lit _ _ _ (by decide)

/-- What it stores as scales. -/
theorem out_7 (x0 : Vec F S32768x7936 .fp8e4m3) (x1 : Vec F S32768x62 .f32) (x2 : Vec F S6656x7936 .fp8e4m3) (x3 : Vec F S6656x62 .f32)
    (x4 : Vec F S6656x7936 .fp8e4m3) (x5 : Vec F S6656x62 .f32) :
    out0_7 x0 x1 x2 x3 x4 x5 = k0_pay2 (k0_pay5 x0 x1 x2 x3 x4 x5)
      (iota .tc S32768x52x252 32 [2] iota_S32768x52x252_d2_w32) k0_pay6 := by
  unfold_out out0_7
  have h0 : ∀ (x : Vec F S32768x7936 .fp8e4m3), View.ld x r0_0 = x := fun x => View.ld_unit_lit _ x (by decide)
  have h1 : ∀ (x : Vec F S32768x62 .f32), View.ld x r0_1 = x := fun x => View.ld_unit_lit _ x (by decide)
  have h2 : ∀ (x : Vec F S6656x7936 .fp8e4m3), View.ld x r0_2 = x := fun x => View.ld_unit_lit _ x (by decide)
  have h3 : ∀ (x : Vec F S6656x62 .f32), View.ld x r0_3 = x := fun x => View.ld_unit_lit _ x (by decide)
  rw [h0, h1, h2, h3, h2, h3]
  exact View.canon_cons_unit_lit _ _ _ (by decide)

/-- The one block covers the codes. -/
theorem covers_6 : (cfg0.win 6).Covers := by decide +kernel
/-- The one block covers the scales. -/
theorem covers_7 : (cfg0.win 7).Covers := by decide +kernel

/-- The block's indices are the array's. -/
theorem emb_6 (t : Fin cfg0.N) (y : S32768x6656.Idx) : (((cfg0.win 6).blk t).view.emb y : S32768x6656.Idx) = y := by
  refine funext fun a => Fin.ext ?_
  show 0 * _ + 1 * (y a).val = (y a).val
  omega

/-- The block's indices are the array's. -/
theorem emb_7 (t : Fin cfg0.N) (y : S32768x52.Idx) : (((cfg0.win 7).blk t).view.emb y : S32768x52.Idx) = y := by
  refine funext fun a => Fin.ext ?_
  show 0 * _ + 1 * (y a).val = (y a).val
  omega

/-- h, in groups of 128 columns. -/
def hidden3 (c : Dev nD) : FVec F S32768x52x128 .f32 :=
  k0_pay4 (V m c main_v3) (V m c main_v4) (V m c main_v1) (V m c main_arg3) (V m c main_v2) (V m c main_arg5)

/-- The quantiser arguments. -/
def args (c : Dev nD) : FVec F S32768x52 .f32 :=
  k0_pay5 (V m c main_v3) (V m c main_v4) (V m c main_v1) (V m c main_arg3) (V m c main_v2) (V m c main_arg5)

/-- The reference's codes. -/
def codes (c : Dev nD) : Vec F S32768x6656 .fp8e4m3 :=
  k0_pay3 (hidden3 m c) (args m c) (iota .tc S32768x52x252 32 [2] iota_S32768x52x252_d2_w32) k0_pay6

/-- The reference's scales. -/
def scales (c : Dev nD) : Vec F S32768x52 .f32 :=
  k0_pay2 (args m c) (iota .tc S32768x52x252 32 [2] iota_S32768x52x252_d2_w32) k0_pay6

/-- The codes' array after the run. -/
theorem final_6 (c : Dev nD) : (dats m 0 c).arrAt 6 cfg0.N = codes m c := by
  refine Dat.arrAt_eq_of_covers _ 6 _ covers_6 fun t hf y => ?_
  refine Eq.trans ?_ (congrArg (codes m c) (emb_6 t y)).symm
  have h : out0_6 (iblk m c 0 t) (iblk m c 1 t) (iblk m c 2 t) (iblk m c 3 t) (iblk m c 4 t) (iblk m c 5 t) = codes m c := by
    rw [out_6, block_0, block_1, block_2, block_3, block_4, block_5]
    rfl
  exact (congrFun (Value.flushed6 m c t) y).trans (congrFun h y)

/-- The scales' array after the run. -/
theorem final_7 (c : Dev nD) : (dats m 0 c).arrAt 7 cfg0.N = scales m c := by
  refine Dat.arrAt_eq_of_covers _ 7 _ covers_7 fun t hf y => ?_
  refine Eq.trans ?_ (congrArg (scales m c) (emb_7 t y)).symm
  have h : out0_7 (iblk m c 0 t) (iblk m c 1 t) (iblk m c 2 t) (iblk m c 3 t) (iblk m c 4 t) (iblk m c 5 t) = scales m c := by
    rw [out_7, block_0, block_1, block_2, block_3, block_4, block_5]
    rfl
  exact (congrFun (Value.flushed7 m c t) y).trans (congrFun h y)

end Cert.ReferenceIdeal.Read

end
-- ==== Proof.Exponent.lean ====
/- The scalar arithmetic of the fp8 quantiser's power-of-two scale: the exponent field found bit by bit, and the exponent of
   frexp found as the least power of two above a number, name the same scale and the same inverse. -/
module

public import Idealize.ShloMosaic.PureOps.Ideal

@[expose] public section

noncomputable section

namespace Cert.Exponent

open Idealize.ShloMosaic

/-- The float whose exponent field is `n` and whose fraction is zero; the field 0 stands for everything below. -/
def power (n : ℕ) : EReal := if n = 0 then ⊥ else if 255 ≤ n then ⊤ else (((2 : ℝ) ^ ((n : ℤ) - 127) : ℝ) : EReal)

/-- The word of exponent field `n` and fraction zero reads as `power n`. -/
theorem ofBits_field {n : ℕ} (h0 : 0 < n) (h : n ≤ 255) :
    Ideal.ofBits .f32 (BitVec.ofNat 32 n <<< 23) = power n := by
  have e1 : (BitVec.extractLsb' 31 1 (BitVec.ofNat 32 n <<< 23)) = 0#1 := by
    interval_cases n <;> rfl
  have e2 : (BitVec.extractLsb' 23 8 (BitVec.ofNat 32 n <<< 23)).toNat = n := by
    interval_cases n <;> rfl
  have e3 : (BitVec.extractLsb' 0 23 (BitVec.ofNat 32 n <<< 23)).toNat = 0 := by
    interval_cases n <;> rfl
  have e4 : (1#1 == (1#1 : BitVec 1)) = true := rfl
  have e5 : (0#1 == (1#1 : BitVec 1)) = false := rfl
  unfold Ideal.ofBits Ideal.ieee power
  simp only [Nat.reduceAdd, e1, e2, e3, e5]
  by_cases h255 : n = 255
  · subst h255; simp
  · have h1 : ¬ (n = 2 ^ 8 - 1) := by omega
    have h2 : ¬ (255 ≤ n) := by omega
    have h3 : ¬ (n = 0) := by omega
    simp only [h1, h2, h3, if_false, Bool.false_eq_true]
    refine congrArg (fun r : ℝ => (r : EReal)) ?_
    have : ((n : ℤ) - (2 ^ (8 - 1) - 1) - ((23 : ℕ) : ℤ)) = ((n : ℤ) - 127) + (-23) := by norm_num; ring
    rw [this, zpow_add₀ (by norm_num : (2 : ℝ) ≠ 0)]
    norm_num
    ring

/-- One step of the search: the field with the bit added, unless the power it names is above `x`. -/
def step (x : EReal) (f : BitVec 32) (bit : BitVec 32) : BitVec 32 :=
  if x < Ideal.ofBits .f32 ((f + bit) <<< 23) then f else f + bit

/-- A step halves the interval that is known to hold `x`. -/
theorem step_spec {x : EReal} {f b : ℕ} (hb : 0 < b) (hfb : f + b ≤ 255) (hl : power f ≤ x)
    (hu : f + 2 * b ≤ 255 → x < power (f + 2 * b)) :
    ∃ f' : ℕ, step x (BitVec.ofNat 32 f) (BitVec.ofNat 32 b) = BitVec.ofNat 32 f' ∧ f ≤ f' ∧ f' ≤ f + b ∧ power f' ≤ x
      ∧ (f' + b ≤ 255 → x < power (f' + b)) := by
  unfold step
  rw [← BitVec.ofNat_add, ofBits_field (by omega) hfb]
  by_cases h : x < power (f + b)
  · exact ⟨f, by rw [if_pos h], le_refl _, by omega, hl, fun _ => h⟩
  · exact ⟨f + b, by rw [if_neg h], by omega, le_refl _, not_lt.mp h, fun h' => by
      have := hu (by omega); rwa [show f + b + b = f + 2 * b by ring]⟩

/-- The search over the eight bits of the field. -/
def field (x : EReal) : BitVec 32 :=
  step x (step x (step x (step x (step x (step x (step x (step x 0#32 128#32) 64#32) 32#32) 16#32) 8#32) 4#32) 2#32) 1#32

/-- What the search finds: the field `n` of the power of two just below `x`. -/
theorem field_spec (x : EReal) : ∃ n : ℕ, n ≤ 255 ∧ field x = BitVec.ofNat 32 n ∧ power n ≤ x ∧ (n < 255 → x < power (n + 1)) := by
  obtain ⟨f1, e1, l1, m1, p1, q1⟩ := step_spec (x := x) (f := 0) (b := 128) (by omega) (by omega) (by simp [power]) (fun h => by omega)
  obtain ⟨f2, e2, l2, m2, p2, q2⟩ := step_spec (x := x) (f := f1) (b := 64) (by omega) (by omega) p1 q1
  obtain ⟨f3, e3, l3, m3, p3, q3⟩ := step_spec (x := x) (f := f2) (b := 32) (by omega) (by omega) p2 q2
  obtain ⟨f4, e4, l4, m4, p4, q4⟩ := step_spec (x := x) (f := f3) (b := 16) (by omega) (by omega) p3 q3
  obtain ⟨f5, e5, l5, m5, p5, q5⟩ := step_spec (x := x) (f := f4) (b := 8) (by omega) (by omega) p4 q4
  obtain ⟨f6, e6, l6, m6, p6, q6⟩ := step_spec (x := x) (f := f5) (b := 4) (by omega) (by omega) p5 q5
  obtain ⟨f7, e7, l7, m7, p7, q7⟩ := step_spec (x := x) (f := f6) (b := 2) (by omega) (by omega) p6 q6
  obtain ⟨f8, e8, l8, m8, p8, q8⟩ := step_spec (x := x) (f := f7) (b := 1) (by omega) (by omega) p7 q7
  refine ⟨f8, by omega, ?_, p8, fun h => q8 (by omega)⟩
  unfold field
  rw [e1, e2, e3, e4, e5, e6, e7, e8]

end Cert.Exponent

end
-- ==== Proof.PowerOfTwo.lean ====
/- The quantiser's power-of-two scale, two ways: from the exponent field of the argument, and as the least exponent of a power of
   two above it. Below 2^126 they are the same scale and the same inverse. -/
module

public import proofs.«01_k».proof.Proof.Exponent
public import Mathlib.Data.Finset.Fold

@[expose] public section

noncomputable section

namespace Cert.Exponent

open Idealize.ShloMosaic

/-- The exponent word from the field: zero for the field 0, else the field less 126. -/
def wordOf (f : BitVec 32) : BitVec 32 := if f = 0#32 then 0#32 else f - 126#32

/-- The scale from an exponent word. -/
def scaleOf (e : BitVec 32) : EReal := Ideal.ofBits .f32 ((e + 127#32) <<< 23)

/-- The inverse scale from an exponent word. -/
def inverseOf (e : BitVec 32) : EReal := Ideal.ofBits .f32 ((127#32 - e) <<< 23)

/-- One candidate of the least exponent: `k - 125` if its power is above `x`, else 127. -/
def candidate (x : EReal) (k : Fin 252) : EReal :=
  if x < Ideal.exp2 ((((BitVec.ofNat 32 k.val - 125#32).toInt : ℝ)) : EReal) then (((BitVec.ofNat 32 k.val - 125#32).toInt : ℝ) : EReal)
  else Ideal.ofBits .f32 0x42FE0000#32

/-- The least exponent of a power of two above `x`; zero below the least normal number. -/
def leastExp (x : EReal) : EReal :=
  if x < Ideal.ofBits .f32 0x00800000#32 then Ideal.ofBits .f32 0x00000000#32
  else Finset.univ.fold min (Ideal.ofBits .f32 0x7F800000#32) (candidate x)

/-- The word of zero. -/
theorem ofBits_zero : Ideal.ofBits .f32 0x00000000#32 = ((0 : ℝ) : EReal) := by
  unfold Ideal.ofBits Ideal.ieee
  simp

/-- The minimum starts at infinity. -/
theorem ofBits_top : Ideal.ofBits .f32 0x7F800000#32 = ⊤ := by
  have h := ofBits_field (n := 255) (by decide) (by decide)
  rw [show (0x7F800000#32 : BitVec 32) = BitVec.ofNat 32 255 <<< 23 from rfl, h]
  simp [power]

/-- The least normal number is the first power of two. -/
theorem ofBits_least : Ideal.ofBits .f32 0x00800000#32 = power 1 :=
  ofBits_field (n := 1) (by decide) (by decide)

/-- The exponent past the last candidate. -/
theorem ofBits_127 : Ideal.ofBits .f32 0x42FE0000#32 = ((127 : ℝ) : EReal) := by
  have e1 : (BitVec.extractLsb' 31 1 (0x42FE0000#32)) = 0#1 := rfl
  have e2 : (BitVec.extractLsb' 23 8 (0x42FE0000#32)).toNat = 133 := rfl
  have e3 : (BitVec.extractLsb' 0 23 (0x42FE0000#32)).toNat = 8257536 := rfl
  have e5 : (0#1 == (1#1 : BitVec 1)) = false := rfl
  unfold Ideal.ofBits Ideal.ieee
  simp only [Nat.reduceAdd, e1, e2, e3, e5]
  norm_num

/-- The exponent of candidate `k`. -/
theorem toInt_candidate (k : Fin 252) : (BitVec.ofNat 32 k.val - 125#32).toInt = (k.val : ℤ) - 125 := by
  revert k
  decide

/-- Two to an integer. -/
theorem exp2_int (z : ℤ) : Ideal.exp2 (((z : ℤ) : ℝ) : EReal) = (((2 : ℝ) ^ z : ℝ) : EReal) := by
  show ((Real.rpow 2 (z : ℝ) : ℝ) : EReal) = _
  exact congrArg (fun r : ℝ => (r : EReal)) (Real.rpow_intCast 2 z)

/-- The powers of two as reals. -/
theorem power_coe {n : ℕ} (h0 : 0 < n) (h : n < 255) : power n = (((2 : ℝ) ^ ((n : ℤ) - 127) : ℝ) : EReal) := by
  unfold power
  rw [if_neg (by omega), if_neg (by omega)]

/-- A number of field `n` is below a candidate's power exactly from the candidate `n - 1` on. -/
theorem candidate_eq {x : EReal} {n : ℕ} (h0 : 0 < n) (h : n ≤ 252) (hl : power n ≤ x) (hu : x < power (n + 1)) (k : Fin 252) :
    candidate x k = if n ≤ k.val + 1 then (((k.val : ℝ) - 125 : ℝ) : EReal) else ((127 : ℝ) : EReal) := by
  unfold candidate
  rw [toInt_candidate, exp2_int, ofBits_127]
  rw [power_coe h0 (by omega)] at hl
  rw [power_coe (by omega) (by omega)] at hu
  by_cases hk : n ≤ k.val + 1
  · have : x < (((2 : ℝ) ^ ((k.val : ℤ) - 125) : ℝ) : EReal) := lt_of_lt_of_le hu
      (EReal.coe_le_coe_iff.mpr (zpow_le_zpow_right₀ (by norm_num) (by push_cast; omega)))
    rw [if_pos this, if_pos hk]
    push_cast
    rfl
  · have : ¬ x < (((2 : ℝ) ^ ((k.val : ℤ) - 125) : ℝ) : EReal) := not_lt.mpr (le_trans
      (EReal.coe_le_coe_iff.mpr (zpow_le_zpow_right₀ (by norm_num) (by omega))) hl)
    rw [if_neg this, if_neg hk]

/-- The least exponent of a number of field `n` is `n - 126`. -/
theorem leastExp_eq {x : EReal} {n : ℕ} (h0 : 0 < n) (h : n ≤ 252) (hl : power n ≤ x) (hu : x < power (n + 1)) :
    leastExp x = ((((n : ℤ) - 126 : ℤ) : ℝ) : EReal) := by
  have h1 : ¬ x < power 1 := not_lt.mpr (le_trans (by
    rw [power_coe (by omega) (by omega), power_coe h0 (by omega)]
    exact EReal.coe_le_coe_iff.mpr (zpow_le_zpow_right₀ (by norm_num) (by push_cast; omega))) hl)
  unfold leastExp
  rw [ofBits_least, if_neg h1, ofBits_top]
  refine le_antisymm ?_ ?_
  · refine Finset.fold_min_le _ |>.mpr (Or.inr ⟨⟨n - 1, by omega⟩, Finset.mem_univ _, ?_⟩)
    rw [candidate_eq h0 h hl hu, if_pos (by show n ≤ n - 1 + 1; omega)]
    refine le_of_eq (congrArg (fun r : ℝ => (r : EReal)) ?_)
    show (((n - 1 : ℕ) : ℝ) - 125) = _
    rw [Nat.cast_sub (by omega)]
    push_cast
    ring
  · refine Finset.le_fold_min _ |>.mpr ⟨le_top, fun k _ => ?_⟩
    rw [candidate_eq h0 h hl hu]
    split
    · next hk =>
      refine EReal.coe_le_coe_iff.mpr ?_
      have : (n : ℝ) ≤ (k.val : ℝ) + 1 := by exact_mod_cast hk
      push_cast
      linarith
    · refine EReal.coe_le_coe_iff.mpr ?_
      have : (n : ℝ) ≤ 252 := by exact_mod_cast h
      push_cast
      linarith

/-- Below 2^126 the scale and the inverse scale of the two ways agree. -/
theorem scales_agree {x : EReal} (hx : x < power 253) :
    scaleOf (wordOf (field x)) = Ideal.exp2 (leastExp x)
      ∧ inverseOf (wordOf (field x)) = Ideal.exp2 (Ideal.ofBits .f32 0x00000000#32 - leastExp x) := by
  obtain ⟨n, hn, hf, hl, hu⟩ := field_spec x
  have hn' : n ≤ 252 := by
    by_contra hc
    have : power 253 ≤ power n := by
      by_cases h255 : n = 255
      · subst h255; simp [power]
      · rw [power_coe (by omega) (by omega), power_coe (by omega) (by omega)]
        exact EReal.coe_le_coe_iff.mpr (zpow_le_zpow_right₀ (by norm_num) (by push_cast; omega))
    exact absurd hx (not_lt.mpr (le_trans this hl))
  have hu' := hu (by omega)
  rw [hf]
  unfold scaleOf inverseOf wordOf
  by_cases h0 : n = 0
  · subst h0
    have hz : leastExp x = ((0 : ℝ) : EReal) := by
      unfold leastExp
      rw [ofBits_least, if_pos hu', ofBits_zero]
    have e1 : Ideal.ofBits .f32 (BitVec.ofNat 32 127 <<< 23) = ((1 : ℝ) : EReal) := by
      rw [ofBits_field (by decide) (by decide), power_coe (by decide) (by decide)]
      norm_num
    have e2 : Ideal.exp2 ((0 : ℝ) : EReal) = ((1 : ℝ) : EReal) := by
      have := exp2_int 0
      simpa using this
    rw [hz, ofBits_zero]
    have e3 : ((0 : ℝ) : EReal) - ((0 : ℝ) : EReal) = ((0 : ℝ) : EReal) := by rw [← EReal.coe_sub]; norm_num
    rw [e3, e2]
    exact ⟨e1, e1⟩
  · have hne : BitVec.ofNat 32 n ≠ 0#32 := fun h => h0 (by
      have := congrArg BitVec.toNat h
      simp only [BitVec.toNat_ofNat] at this
      omega)
    rw [if_neg hne, leastExp_eq (by omega) hn' hl hu', ofBits_zero, exp2_int]
    have w1 : BitVec.ofNat 32 n - 126#32 + 127#32 = BitVec.ofNat 32 (n + 1) := by
      have : n < 253 := by omega
      interval_cases n <;> rfl
    have w2 : 127#32 - (BitVec.ofNat 32 n - 126#32) = BitVec.ofNat 32 (253 - n) := by
      have : n < 253 := by omega
      interval_cases n <;> rfl
    rw [w1, w2, ofBits_field (by omega) (by omega), ofBits_field (by omega) (by omega), power_coe (by omega) (by omega), power_coe (by omega) (by omega)]
    refine ⟨congrArg (fun z : ℤ => (((2 : ℝ) ^ z : ℝ) : EReal)) (by push_cast; ring), ?_⟩
    rw [← EReal.coe_sub, show ((0 : ℝ) - (((n : ℤ) - 126 : ℤ) : ℝ)) = (((126 - (n : ℤ)) : ℤ) : ℝ) by push_cast; ring, exp2_int]
    exact congrArg (fun z : ℤ => (((2 : ℝ) ^ z : ℝ) : EReal)) (by rw [Nat.cast_sub (by omega)]; push_cast; ring)

/-- silu of the gate times the up projection. -/
def swiglu (g u : EReal) : EReal := g * Ideal.logistic g * u

/-- A group's quantiser argument: its largest magnitude over 448. -/
def groupArg (h : Fin 128 → EReal) : EReal :=
  Finset.univ.fold max (Ideal.ofBits .f32 0xFF800000#32) (fun l => max (h l) (-(h l))) * Ideal.ofBits .f32 0x3B124925#32

/-- A value scaled and clamped to the codes' range. -/
def clamped (h s : EReal) : EReal := min (Ideal.ofBits .f32 0x43E00000#32) (max (Ideal.ofBits .f32 0xC3E00000#32) (h * s))

end Cert.Exponent

end
-- ==== Proof.Search.lean ====
/- The kernel's tile at one element, over the reals: the product of silu of the gate with the up projection, the group's quantiser
   argument, the search for its exponent, the scale and the code. -/
module

public import proofs.«01_k».proof.Proof.Scales
public import proofs.«01_k».proof.Proof.PowerOfTwo
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe
open Cert.Exponent

/-- One step of the search on a column. -/
def columnStep (x : FVec Ideal S1024x1 .f32) (f : IVec S1024x1 32) (b : BitVec 32) : IVec S1024x1 32 :=
  select (cmpf .olt x (bitcastToFloat .f32 (shli (addi f (broadcast S1024x1 b)) (broadcast S1024x1 23#32)))) f (addi f (broadcast S1024x1 b))

/-- One step of the search, at a row: the bit is kept when the argument reaches its power of two. -/
theorem columnStep_apply (x : FVec Ideal S1024x1 .f32) (f : IVec S1024x1 32) (b : BitVec 32) (i : S1024x1.Idx) :
    columnStep x f b i = step (x i) (f i) b := by
  show (if BitVec.ofBool (decide (x i < Ideal.ofBits .f32 (IntOp.shli .vector (f i + b) 23#32))) = 1#1 then f i else f i + b) = _
  have e : IntOp.shli .vector (f i + b) 23#32 = (f i + b) <<< 23 := rfl
  rw [e]
  unfold step
  by_cases h : x i < Ideal.ofBits .f32 ((f i + b) <<< 23)
  · rw [if_pos h, decide_eq_true h]; rfl
  · rw [if_neg h, decide_eq_false h]; rfl

/-- The search on a column. -/
def columnField (x : FVec Ideal S1024x1 .f32) : IVec S1024x1 32 :=
  columnStep x (columnStep x (columnStep x (columnStep x (columnStep x (columnStep x (columnStep x (columnStep x (broadcast S1024x1 0#32) 128#32) 64#32) 32#32) 16#32)
    8#32) 4#32) 2#32) 1#32

/-- The eight steps, at a row: the exponent field of the row's argument. -/
theorem columnField_apply (x : FVec Ideal S1024x1 .f32) (i : S1024x1.Idx) : columnField x i = field (x i) := by
  unfold columnField field
  simp only [columnStep_apply]
  rfl

/-- The exponent word on a column. -/
def columnWord (f : IVec S1024x1 32) : IVec S1024x1 32 :=
  select (cmpi .eq f (broadcast S1024x1 0#32)) (broadcast S1024x1 0#32) (subi f (broadcast S1024x1 126#32))

/-- The exponent word of a field, at a row. -/
theorem columnWord_apply (f : IVec S1024x1 32) (i : S1024x1.Idx) : columnWord f i = wordOf (f i) := by
  show (if BitVec.ofBool (f i == 0#32) = 1#1 then 0#32 else f i - 126#32) = _
  unfold wordOf
  by_cases h : f i = 0#32
  · rw [if_pos h, beq_iff_eq.mpr h]; rfl
  · rw [if_neg h, beq_eq_false_iff_ne.mpr h]; rfl

/-- The left group's exponent word. -/
theorem wordLo (a b : FVec Ideal S1024x1 .f32) :
    k0_pay266 (k0_pay263 a b) (k0_pay264 a b) (k0_pay265 a b) 8#32 = columnWord (columnField (k0_pay263 a b)) := rfl

/-- The right group's exponent word. -/
theorem wordHi (h : FVec Ideal S1024x256 .f32) :
    k0_pay1 (k0_pay279 (k0_pay273 h) (stepsHi h) k0_pay277) (k0_pay280 (k0_pay273 h) (stepsHi h) k0_pay277) k0_pay281
      = columnWord (columnField (k0_pay273 h)) := rfl

variable (xb : Vec Ideal S1024x7936 .bf16) (gb ub : Vec Ideal S256x7936 .bf16)

/-- A tile's h at an element: the two products over 7936, then silu of the gate times the up projection. -/
theorem tileH_apply (i : S1024x256.Idx) : tileH xb gb ub i
    = swiglu (∑ k, xb (ix2 (i 0) k) * gb (ix2 (i 1) k)) (∑ k, xb (ix2 (i 0) k) * ub (ix2 (i 1) k)) := by
  unfold tileH
  pointwise [k0_pay258]
  rw [zero_sub]
  rfl

/-- The left group's quantiser argument of a row. -/
theorem argLo_apply (i : S1024x1.Idx) : argLo xb gb ub i = groupArg fun l => tileH xb gb ub (ix2 (i 0) ⟨l.val, by omega⟩) := by
  unfold argLo
  pointwise [k0_pay263, k0_pay261, k0_pay262, k0_pay260]
  rfl

/-- The right group's quantiser argument of a row. -/
theorem argHi_apply (h : FVec Ideal S1024x256 .f32) (i : S1024x1.Idx) :
    k0_pay273 h i = groupArg fun l => h (ix2 (i 0) ⟨128 + l.val, by omega⟩) := by
  pointwise [k0_pay273, k0_pay272]
  rfl

/-- The left group's scale of a row. -/
theorem scaleLo_apply (i : S1024x1.Idx) : scaleLo xb gb ub i = scaleOf (wordOf (field (argLo xb gb ub i))) := by
  have e : scaleLo xb gb ub i = scaleOf (k0_pay266 (argLo xb gb ub) (k0_pay264 (k0_pay261 xb gb xb ub) k0_pay262) (k0_pay265 (k0_pay261 xb gb xb ub) k0_pay262) 8#32 i) := rfl
  rw [e, wordLo, columnWord_apply, columnField_apply]

/-- The right group's scale of a row. -/
theorem scaleHi_apply (h : FVec Ideal S1024x256 .f32) (i : S1024x1.Idx) : scaleHi h i = scaleOf (wordOf (field (k0_pay273 h i))) := by
  have e : scaleHi h i = scaleOf (k0_pay1 (k0_pay279 (k0_pay273 h) (stepsHi h) k0_pay277) (k0_pay280 (k0_pay273 h) (stepsHi h) k0_pay277) k0_pay281 i) := rfl
  rw [e, wordHi, columnWord_apply, columnField_apply]

/-- The left group's codes. -/
theorem codesLo_apply (i : S1024x128.Idx) : codesLo xb gb ub i
    = clamped (tileH xb gb ub (ix2 (i 0) ⟨(i 1).val, by have : (i 1).val < 128 := (i 1).isLt; omega⟩)) (inverseOf (wordOf (field (argLo xb gb ub (ix2 (i 0) 0))))) := by
  unfold codesLo
  pointwise [k0_pay270, k0_pay260, k0_pay269, k0_pay268]
  rw [wordLo, columnWord_apply, columnField_apply]
  rfl

/-- The right group's codes. -/
theorem codesHi_apply (h : FVec Ideal S1024x256 .f32) (i : S1024x128.Idx) : codesHi h i
    = clamped (h (ix2 (i 0) ⟨128 + (i 1).val, by have : (i 1).val < 128 := (i 1).isLt; omega⟩)) (inverseOf (wordOf (field (k0_pay273 h (ix2 (i 0) 0))))) := by
  unfold codesHi
  pointwise [k0_pay2, k0_pay272]
  rw [wordHi, columnWord_apply, columnField_apply]
  rfl

end Cert.KernelIdeal.Body

end
-- ==== Proof.Hidden.lean ====
/- One element of h, over the reals, from the codes and the scales as arrays; and, for codes and scales in range, the bound on a
   group's quantiser argument that the power-of-two scale needs. -/
module

public import proofs.«01_k».proof.Proof.PowerOfTwo
public import Idealize.ShloMosaic.Lib.Pointwise

@[expose] public section

noncomputable section

namespace Cert.Exponent

open Idealize.ShloMosaic

/-- An array of extended reals over two axes. -/
abbrev Mat (R C : ℕ) : Type := (⟨2, ![R, C]⟩ : Shape).Idx → EReal

/-- A dequantised element: the code times its group's scale. -/
def dequant {R : ℕ} (X : Mat R 7936) (S : Mat R 62) (r : Fin R) (k : Fin 7936) : EReal :=
  X (ix2 r k) * S (ix2 r ⟨k.val / 128, by omega⟩)

/-- One element of h. -/
def hidden (x : Mat 32768 7936) (xs : Mat 32768 62) (g : Mat 6656 7936) (gs : Mat 6656 62) (u : Mat 6656 7936) (us : Mat 6656 62)
    (r : Fin 32768) (j : Fin 6656) : EReal :=
  swiglu (∑ k, dequant x xs r k * dequant g gs j k) (∑ k, dequant x xs r k * dequant u us j k)

/-- The quantiser argument of group `b` of row `r`. -/
def hiddenArg (x : Mat 32768 7936) (xs : Mat 32768 62) (g : Mat 6656 7936) (gs : Mat 6656 62) (u : Mat 6656 7936) (us : Mat 6656 62)
    (r : Fin 32768) (b : Fin 52) : EReal :=
  groupArg fun l => hidden x xs g gs u us r ⟨b.val * 128 + l.val, by omega⟩

/-- A real of magnitude at most `B`. -/
def Bounded (B : ℝ) (e : EReal) : Prop := ∃ a : ℝ, e = (a : EReal) ∧ |a| ≤ B

/-- The product of bounded reals. -/
theorem Bounded.mul {A B : ℝ} {a b : EReal} (ha : Bounded A a) (hb : Bounded B b) : Bounded (A * B) (a * b) := by
  obtain ⟨p, rfl, hp⟩ := ha
  obtain ⟨q, rfl, hq⟩ := hb
  refine ⟨p * q, (EReal.coe_mul p q).symm, ?_⟩
  rw [abs_mul]
  exact mul_le_mul hp hq (abs_nonneg q) (le_trans (abs_nonneg p) hp)

/-- The sum of bounded reals. -/
theorem Bounded.sum {n : ℕ} {B : ℝ} {f : Fin n → EReal} (h : ∀ k, Bounded B (f k)) : Bounded (n * B) (∑ k, f k) := by
  choose a ha hb using h
  refine ⟨∑ k, a k, ?_, ?_⟩
  · rw [Finset.sum_congr rfl fun k _ => ha k]
    exact (map_sum (⟨⟨fun r : ℝ => (r : EReal), EReal.coe_zero⟩, EReal.coe_add⟩ : ℝ →+ EReal) a Finset.univ).symm
  · refine le_trans (Finset.abs_sum_le_sum_abs _ _) (le_trans (Finset.sum_le_sum fun k _ => hb k) ?_)
    simp

/-- The logistic of a real is between 0 and 1. -/
theorem Bounded.logistic {B : ℝ} {g : EReal} (h : Bounded B g) : Bounded 1 (Ideal.logistic g) := by
  obtain ⟨a, rfl, -⟩ := h
  have e1 : Ideal.logistic (a : EReal) = Ideal.div 1 ((1 + Real.exp (-a) : ℝ) : EReal) := rfl
  have hp : 0 < 1 + Real.exp (-a) := by positivity
  refine ⟨1 / (1 + Real.exp (-a)), ?_, ?_⟩
  · rw [e1, Ideal.div_coe hp.ne', one_mul]
  · rw [abs_of_pos (by positivity)]
    refine (div_le_one hp).mpr ?_
    have := Real.exp_pos (-a)
    linarith

/-- SwiGLU of bounded reals. -/
theorem Bounded.swiglu {A B : ℝ} {g u : EReal} (hg : Bounded A g) (hu : Bounded B u) : Bounded (A * 1 * B) (swiglu g u) :=
  (hg.mul hg.logistic).mul hu

/-- The constant 1/448 is a real between 0 and 1. -/
theorem ofBits_448th : ∃ c : ℝ, Ideal.ofBits .f32 0x3B124925#32 = (c : EReal) ∧ 0 ≤ c ∧ c ≤ 1 := by
  have e1 : (BitVec.extractLsb' 31 1 (0x3B124925#32)) = 0#1 := rfl
  have e2 : (BitVec.extractLsb' 23 8 (0x3B124925#32)).toNat = 118 := rfl
  have e3 : (BitVec.extractLsb' 0 23 (0x3B124925#32)).toNat = 1198373 := rfl
  have e5 : (0#1 == (1#1 : BitVec 1)) = false := rfl
  unfold Ideal.ofBits Ideal.ieee
  simp only [Nat.reduceAdd, e1, e2, e3, e5]
  norm_num

/-- The maximum starts at minus infinity. -/
theorem ofBits_bot : Ideal.ofBits .f32 0xFF800000#32 = ⊥ := by
  have e1 : (BitVec.extractLsb' 31 1 (0xFF800000#32)) = 1#1 := rfl
  have e2 : (BitVec.extractLsb' 23 8 (0xFF800000#32)).toNat = 255 := rfl
  have e3 : (BitVec.extractLsb' 0 23 (0xFF800000#32)).toNat = 0 := rfl
  unfold Ideal.ofBits Ideal.ieee
  simp only [Nat.reduceAdd, e1, e2, e3]
  norm_num

/-- A group's quantiser argument is at most the bound on its elements. -/
theorem groupArg_le {B : ℝ} {h : Fin 128 → EReal} (hh : ∀ l, Bounded B (h l)) : groupArg h ≤ (B : EReal) := by
  obtain ⟨c, hc, c0, c1⟩ := ofBits_448th
  unfold groupArg
  rw [hc, ofBits_bot]
  have up : Finset.univ.fold max (⊥ : EReal) (fun l => max (h l) (-(h l))) ≤ (B : EReal) := by
    refine Finset.fold_max_le _ |>.mpr ⟨bot_le, fun l _ => ?_⟩
    obtain ⟨a, ha, hb⟩ := hh l
    rw [ha, ← EReal.coe_neg]
    exact max_le (EReal.coe_le_coe_iff.mpr (le_trans (le_abs_self a) hb)) (EReal.coe_le_coe_iff.mpr (le_trans (neg_le_abs a) hb))
  have lo : (0 : EReal) ≤ Finset.univ.fold max (⊥ : EReal) (fun l => max (h l) (-(h l))) := by
    refine Finset.le_fold_max _ |>.mpr (Or.inr ⟨0, Finset.mem_univ _, ?_⟩)
    obtain ⟨a, ha, -⟩ := hh 0
    rw [ha, ← EReal.coe_neg]
    rcases le_total 0 a with h0 | h0
    · exact le_trans (EReal.coe_le_coe_iff.mpr h0) (le_max_left _ _)
    · exact le_trans (EReal.coe_le_coe_iff.mpr (neg_nonneg.mpr h0)) (le_max_right _ _)
  generalize Finset.univ.fold max (⊥ : EReal) (fun l => max (h l) (-(h l))) = M at up lo
  have hM : ((M.toReal : ℝ) : EReal) = M := EReal.coe_toReal (ne_top_of_le_ne_top (EReal.coe_ne_top B) up)
    (ne_bot_of_le_ne_bot (EReal.coe_ne_bot 0) lo)
  rw [← hM] at up lo ⊢
  have h1 : 0 ≤ M.toReal := EReal.coe_le_coe_iff.mp lo
  have h2 : M.toReal ≤ B := EReal.coe_le_coe_iff.mp up
  rw [← EReal.coe_mul]
  exact EReal.coe_le_coe_iff.mpr (le_trans (mul_le_of_le_one_right h1 c1) h2)

variable {x : Mat 32768 7936} {xs : Mat 32768 62} {g : Mat 6656 7936} {gs : Mat 6656 62} {u : Mat 6656 7936} {us : Mat 6656 62}

/-- With codes up to 448 and scales up to 65536 every quantiser argument is below 2^126. -/
theorem hiddenArg_lt (hx : ∀ i, Bounded 448 (x i)) (hxs : ∀ i, Bounded 65536 (xs i)) (hg : ∀ i, Bounded 448 (g i))
    (hgs : ∀ i, Bounded 65536 (gs i)) (hu : ∀ i, Bounded 448 (u i)) (hus : ∀ i, Bounded 65536 (us i)) (r : Fin 32768) (b : Fin 52) :
    hiddenArg x xs g gs u us r b < power 253 := by
  have hb : ∀ j, Bounded _ (hidden x xs g gs u us r j) := fun j =>
    Bounded.swiglu (Bounded.sum fun k => ((hx _).mul (hxs _)).mul ((hg _).mul (hgs _)))
      (Bounded.sum fun k => ((hx _).mul (hxs _)).mul ((hu _).mul (hus _)))
  refine lt_of_le_of_lt (groupArg_le fun l => hb _) ?_
  rw [power_coe (by decide) (by decide)]
  refine EReal.coe_lt_coe_iff.mpr ?_
  norm_num

end Cert.Exponent

end
-- ==== Proof.KernelElements.lean ====
/- The kernel's two results at one element, over the reals, from the arrays its blocks are cut of. -/
module

public import proofs.«01_k».proof.Proof.Final
public import proofs.«01_k».proof.Proof.Search
public import proofs.«01_k».proof.Proof.Hidden

@[expose] public section

set_option maxRecDepth 16384

noncomputable section

namespace Cert.KernelIdeal.Body

open Cert.KernelIdeal Cert.KernelIdeal.Gen Idealize.ShloMosaic Idealize.ShloMosaic.TcCoe
open Cert.Exponent

variable (m : (ℓ : Loc nD τ sig) → Buf (Elt Ideal) ℓ) (c : Dev nD)

/-! The arrays the kernel reads. -/

abbrev inX : Mat 32768 7936 := V m c main_v3
abbrev inXS : Mat 32768 62 := V m c main_v4
abbrev inG : Mat 6656 7936 := V m c main_v1
abbrev inGS : Mat 6656 62 := V m c main_arg3
abbrev inU : Mat 6656 7936 := V m c main_v2
abbrev inUS : Mat 6656 62 := V m c main_arg5

/-- A point's widened activations are the dequantised array at the point's rows. -/
theorem xblk_read (t : Fin cfg0.N) (r : Fin 1024) (k : Fin 7936) :
    xblk m c t (ix2 r k) = dequant (inX m c) (inXS m c) (rowAt t r) k := by
  have e0 := iblk_0 m c t (ix2 r k)
  have e1 := iblk_1 m c t (ix2 r (groupOf k))
  exact congrArg₂ (fun a b : EReal => a * b) e0 e1

/-- A point's widened gate weights, at the point's columns. -/
theorem gblk_read (t : Fin cfg0.N) (r : Fin 256) (k : Fin 7936) :
    gblk m c t (ix2 r k) = dequant (inG m c) (inGS m c) (colAt t r) k := by
  have e0 := iblk_2 m c t (ix2 r k)
  have e1 := iblk_3 m c t (ix2 r (groupOf k))
  exact congrArg₂ (fun a b : EReal => a * b) e0 e1

/-- A point's widened up weights, at the point's columns. -/
theorem ublk_read (t : Fin cfg0.N) (r : Fin 256) (k : Fin 7936) :
    ublk m c t (ix2 r k) = dequant (inU m c) (inUS m c) (colAt t r) k := by
  have e0 := iblk_4 m c t (ix2 r k)
  have e1 := iblk_5 m c t (ix2 r (groupOf k))
  exact congrArg₂ (fun a b : EReal => a * b) e0 e1

/-- h at an element, from the arrays. -/
abbrev hiddenK (r : Fin 32768) (j : Fin 6656) : EReal := hidden (inX m c) (inXS m c) (inG m c) (inGS m c) (inU m c) (inUS m c) r j

/-- A group's quantiser argument, from the arrays. -/
abbrev argK (r : Fin 32768) (b : Fin 52) : EReal := hiddenArg (inX m c) (inXS m c) (inG m c) (inGS m c) (inU m c) (inUS m c) r b

/-- A tile's h is h at the tile's place in the array. -/
theorem tile_read (t : Fin cfg0.N) (r : Fin 1024) (j : Fin 256) :
    tileH (xblk m c t) (gblk m c t) (ublk m c t) (ix2 r j) = hiddenK m c (rowAt t r) (colAt t j) := by
  refine (tileH_apply _ _ _ (ix2 r j)).trans ?_
  refine congrArg₂ swiglu (Finset.sum_congr rfl fun k _ => ?_) (Finset.sum_congr rfl fun k _ => ?_)
  · exact congrArg₂ (fun a b : EReal => a * b) (xblk_read m c t r k) (gblk_read m c t j k)
  · exact congrArg₂ (fun a b : EReal => a * b) (xblk_read m c t r k) (ublk_read m c t j k)

/-- The left group of a tile is the array's group of that number. -/
theorem lo_read (t : Fin cfg0.N) (r : Fin 1024) (b : Fin 52) (hb : t.val % 26 * 2 = b.val) :
    argLo (xblk m c t) (gblk m c t) (ublk m c t) (ix2 r 0) = argK m c (rowAt t r) b := by
  refine (argLo_apply _ _ _ (ix2 r 0)).trans (congrArg groupArg (funext fun l => ?_))
  refine (tile_read m c t r ⟨l.val, by omega⟩).trans (congrArg (hiddenK m c (rowAt t r)) (Fin.ext ?_))
  show t.val % 26 * 256 + l.val = b.val * 128 + l.val
  omega

/-- The right group of a tile, the next one. -/
theorem hi_read (t : Fin cfg0.N) (r : Fin 1024) (b : Fin 52) (hb : t.val % 26 * 2 + 1 = b.val) :
    k0_pay273 (tileH (xblk m c t) (gblk m c t) (ublk m c t)) (ix2 r 0) = argK m c (rowAt t r) b := by
  refine (argHi_apply _ (ix2 r 0)).trans (congrArg groupArg (funext fun l => ?_))
  refine (tile_read m c t r ⟨128 + l.val, by omega⟩).trans (congrArg (hiddenK m c (rowAt t r)) (Fin.ext ?_))
  show t.val % 26 * 256 + (128 + l.val) = b.val * 128 + l.val
  omega

/-- The code of the element at row `r` and column `j` of a point's tile. -/
theorem code_read (t : Fin cfg0.N) (r : Fin 1024) (j : Fin 256) (J : Fin 6656) (b : Fin 52) (hJ : colAt t j = J) (hb : J.val / 128 = b.val) :
    tileCodes (xblk m c t) (gblk m c t) (ublk m c t) (ix2 r j)
      = clamped (hiddenK m c (rowAt t r) J) (inverseOf (wordOf (field (argK m c (rowAt t r) b)))) := by
  have hv : t.val % 26 * 256 + j.val = J.val := congrArg Fin.val hJ
  by_cases hj : j.val < 128
  · refine (dif_pos hj).trans ?_
    refine (codesLo_apply _ _ _ (ix2 r ⟨j.val, hj⟩)).trans ?_
    refine congrArg₂ clamped ?_ (congrArg (fun a => inverseOf (wordOf (field a))) (lo_read m c t r b (by omega)))
    exact (tile_read m c t r j).trans (congrArg (hiddenK m c (rowAt t r)) hJ)
  · have hj' : j.val < 256 := j.isLt
    refine (dif_neg hj).trans ?_
    refine (codesHi_apply _ (ix2 r ⟨j.val - 128, by omega⟩)).trans ?_
    refine congrArg₂ clamped ?_ (congrArg (fun a => inverseOf (wordOf (field a))) (hi_read m c t r b (by omega)))
    refine (tile_read m c t r ⟨128 + (j.val - 128), by omega⟩).trans (congrArg (hiddenK m c (rowAt t r)) (Fin.ext ?_))
    show t.val % 26 * 256 + (128 + (j.val - 128)) = J.val
    omega

/-- The kernel's codes at an element. -/
theorem codes_read (r : Fin 32768) (j : Fin 6656) :
    codes m c (ix2 r j) = clamped (hiddenK m c r j) (inverseOf (wordOf (field (argK m c r ⟨j.val / 128, by omega⟩)))) := by
  have hr : r.val < 32768 := r.isLt
  have hj : j.val < 6656 := j.isLt
  have hv : (codePoint (ix2 r j)).val = r.val / 1024 * 26 + j.val / 256 := rfl
  have e0 : rowAt (codePoint (ix2 r j)) (rowIn r) = r := Fin.ext (by
    show (codePoint (ix2 r j)).val / 26 * 1024 + r.val % 1024 = r.val
    omega)
  have e1 : colAt (codePoint (ix2 r j)) (colIn j) = j := Fin.ext (by
    show (codePoint (ix2 r j)).val % 26 * 256 + j.val % 256 = j.val
    omega)
  have h := code_read m c (codePoint (ix2 r j)) (rowIn r) (colIn j) j ⟨j.val / 128, by omega⟩ e1 rfl
  rw [e0] at h
  exact h

/-- The kernel's scales at an element. -/
theorem scales_read (r : Fin 32768) (b : Fin 52) :
    scales m c (ix2 r b) = scaleOf (wordOf (field (argK m c r b))) := by
  have hr : r.val < 32768 := r.isLt
  have hb : b.val < 52 := b.isLt
  have hv : (scalePoint (ix2 r b)).val = r.val / 1024 * 26 + b.val / 2 := rfl
  have e0 : rowAt (scalePoint (ix2 r b)) (rowIn r) = r := Fin.ext (by
    show (scalePoint (ix2 r b)).val / 26 * 1024 + r.val % 1024 = r.val
    omega)
  by_cases hp : b.val % 2 = 0
  · refine (if_pos hp).trans ?_
    refine (scaleLo_apply _ _ _ _).trans (congrArg (fun a => scaleOf (wordOf (field a))) ?_)
    refine (lo_read m c (scalePoint (ix2 r b)) (rowIn r) b (by omega)).trans ?_
    rw [e0]
  · refine (if_neg hp).trans ?_
    refine (scaleHi_apply _ _).trans (congrArg (fun a => scaleOf (wordOf (field a))) ?_)
    refine (hi_read m c (scalePoint (ix2 r b)) (rowIn r) b (by omega)).trans ?_
    rw [e0]

end Cert.KernelIdeal.Body

end
-- ==== Proof.InRange.lean ====
/- The precondition at an element: no code word is one of the two patterns that are not numbers, so every code is a real up to 448;
   every scale is a real up to 65536. -/
module

public import proofs.«01_k».proof.Defs
public import proofs.«01_k».proof.Proof.Hidden
public import proofs.«01_k».proof.Proof.Gen.Pre_in_range
public import Idealize.ShloMosaic.Lib.ReduceAll

@[expose] public section

noncomputable section

namespace Cert.Exponent

open Idealize.ShloMosaic

/-- A code word that is a number denotes a real up to 448. -/
theorem bounded_code {b : BitVec 8} (h1 : b ≠ 127#8) (h2 : b ≠ 255#8) : Bounded 448 (Ideal.ofBits .fp8e4m3 b) := by
  have hne : ¬ ((b.extractLsb' 3 4).toNat = 15 ∧ (b.extractLsb' 0 3).toNat = 7) := by
    revert h1 h2
    revert b
    decide
  have hex : (b.extractLsb' 3 4).toNat < 16 := (b.extractLsb' 3 4).isLt
  have hfr : (b.extractLsb' 0 3).toNat < 8 := (b.extractLsb' 0 3).isLt
  show Bounded 448 (Ideal.e4m3fn b)
  unfold Ideal.e4m3fn
  generalize (b.extractLsb' 3 4).toNat = ex at *
  generalize (b.extractLsb' 0 3).toNat = fr at *
  have hs : ∀ neg : Bool, |if neg then (-1 : ℝ) else 1| = 1 := fun neg => by cases neg <;> simp
  have hfr' : (fr : ℝ) ≤ 7 := by exact_mod_cast (show fr ≤ 7 by omega)
  have hfr0 : (0 : ℝ) ≤ (fr : ℝ) := Nat.cast_nonneg fr
  dsimp only
  rw [if_neg hne]
  split
  · refine ⟨_, rfl, ?_⟩
    rw [abs_mul, abs_mul, hs, abs_of_nonneg hfr0, one_mul]
    norm_num
    linarith
  · refine ⟨_, rfl, ?_⟩
    have hp : (0 : ℝ) < (2 : ℝ) ^ ((ex : ℤ) - 10) := zpow_pos (by norm_num) _
    rw [abs_mul, abs_mul, hs, one_mul, abs_of_pos hp, abs_of_nonneg (by positivity)]
    push_cast
    by_cases he : ex = 15
    · subst he
      have : (fr : ℝ) ≤ 6 := by exact_mod_cast (show fr ≤ 6 by omega)
      norm_num
      linarith
    · have h4 : (2 : ℝ) ^ ((ex : ℤ) - 10) ≤ (2 : ℝ) ^ (4 : ℤ) := zpow_le_zpow_right₀ (by norm_num) (by omega)
      have : (8 + (fr : ℝ)) * (2 : ℝ) ^ ((ex : ℤ) - 10) ≤ 15 * (2 : ℝ) ^ (4 : ℤ) := mul_le_mul (by linarith) h4 hp.le (by norm_num)
      refine le_trans this ?_
      norm_num

/-- The bound on the scales, as a real. -/
theorem ofBits_65536 : Ideal.ofBits .f32 0x47800000#32 = ((65536 : ℝ) : EReal) := by
  rw [show (0x47800000#32 : BitVec 32) = BitVec.ofNat 32 143 <<< 23 from rfl, ofBits_field (by decide) (by decide),
    power_coe (by decide) (by decide)]
  norm_num

/-- A number whose magnitude is at most 65536 is a real. -/
theorem bounded_scale {x : EReal} (h : max x (-x) ≤ Ideal.ofBits .f32 0x47800000#32) : Bounded 65536 x := by
  rw [ofBits_65536] at h
  have h1 : x ≤ ((65536 : ℝ) : EReal) := le_trans (le_max_left _ _) h
  have h2 : -((65536 : ℝ) : EReal) ≤ x := EReal.neg_le.mp (le_trans (le_max_right _ _) h)
  rw [← EReal.coe_neg] at h2
  have hx : ((x.toReal : ℝ) : EReal) = x := EReal.coe_toReal (ne_top_of_le_ne_top (EReal.coe_ne_top _) h1)
    (ne_bot_of_le_ne_bot (EReal.coe_ne_bot _) h2)
  refine ⟨x.toReal, hx.symm, ?_⟩
  rw [← hx] at h1 h2
  exact abs_le.mpr ⟨EReal.coe_le_coe_iff.mp h2, EReal.coe_le_coe_iff.mp h1⟩

end Cert.Exponent

namespace Cert.InRange

open Idealize.ShloMosaic Cert.Exponent

variable [Cert.Pre_in_range.Facts]
variable {m : (ℓ : Loc Cert.KernelIdeal.nD Cert.KernelIdeal.τ Cert.KernelIdeal.sig) → Buf (Elt Ideal) ℓ}

instance : Subsingleton Cert.Pre_in_range.S_.Idx := ⟨fun a b => funext fun i => i.elim0⟩

/-- The test on a word, at an element. -/
theorem word_ne {s : Shape} {x y : IVec s 8} {i : s.Idx} (h : cmpi .ne x y i = 1#1) : x i ≠ y i := by
  intro e
  have h' : BitVec.ofBool (x i != y i) = 1#1 := h
  rw [e, bne_self_eq_false] at h'
  exact absurd h' (by decide)

/-- The test on a scale, at an element. -/
theorem le_of_cmp {s : Shape} {x y : FVec Ideal s .f32} {i : s.Idx} (h : cmpf .ole x y i = 1#1) : x i ≤ y i := by
  by_contra e
  have h' : BitVec.ofBool (decide (x i ≤ y i)) = 1#1 := h
  rw [decide_eq_false e] at h'
  exact absurd h' (by decide)

/-- What the precondition says of every element of the six arguments. -/
theorem elements (h : Cert.Pre_KernelIdeal_in_range m) (c : Dev Cert.KernelIdeal.nD) :
    (∀ i, Bounded 448 (Ideal.ofBits .fp8e4m3 (m ((c.tc : Thread Cert.KernelIdeal.nD Cert.KernelIdeal.τ).loc Cert.KernelIdeal.main_arg0) i)))
      ∧ (∀ i, Bounded 65536 (m ((c.tc : Thread Cert.KernelIdeal.nD Cert.KernelIdeal.τ).loc Cert.KernelIdeal.main_arg1) i))
      ∧ (∀ i, Bounded 448 (Ideal.ofBits .fp8e4m3 (m ((c.tc : Thread Cert.KernelIdeal.nD Cert.KernelIdeal.τ).loc Cert.KernelIdeal.main_arg2) i)))
      ∧ (∀ i, Bounded 65536 (m ((c.tc : Thread Cert.KernelIdeal.nD Cert.KernelIdeal.τ).loc Cert.KernelIdeal.main_arg3) i))
      ∧ (∀ i, Bounded 448 (Ideal.ofBits .fp8e4m3 (m ((c.tc : Thread Cert.KernelIdeal.nD Cert.KernelIdeal.τ).loc Cert.KernelIdeal.main_arg4) i)))
      ∧ (∀ i, Bounded 65536 (m ((c.tc : Thread Cert.KernelIdeal.nD Cert.KernelIdeal.τ).loc Cert.KernelIdeal.main_arg5) i)) := by
  obtain ⟨h0, h1, h2, h3, h4, h5, h6, h7, h8⟩ := h c
  dsimp only [Cert.Pre_in_range.fn, Cert.Pre_in_range.fn_part1] at h0 h1 h2 h3 h4 h5 h6 h7 h8
  let j : Cert.Pre_in_range.S_.Idx := fun a => a.elim0
  have n0 := fun i => word_ne (Host.reduce_andi_all _ _ _ _ j (congrFun h0 j) i)
  have n1 := fun i => word_ne (Host.reduce_andi_all _ _ _ _ j (congrFun h1 j) i)
  have n2 := fun i => word_ne (Host.reduce_andi_all _ _ _ _ j (congrFun h2 j) i)
  have n3 := fun i => word_ne (Host.reduce_andi_all _ _ _ _ j (congrFun h3 j) i)
  have n4 := fun i => word_ne (Host.reduce_andi_all _ _ _ _ j (congrFun h4 j) i)
  have n5 := fun i => word_ne (Host.reduce_andi_all _ _ _ _ j (congrFun h5 j) i)
  have n6 := fun i => le_of_cmp (Host.reduce_andi_all _ _ _ _ j (congrFun h6 j) i)
  have n7 := fun i => le_of_cmp (Host.reduce_andi_all _ _ _ _ j (congrFun h7 j) i)
  have n8 := fun i => le_of_cmp (Host.reduce_andi_all _ _ _ _ j (congrFun h8 j) i)
  exact ⟨fun i => bounded_code (n0 i) (n1 i), fun i => bounded_scale (n6 i), fun i => bounded_code (n2 i) (n3 i),
    fun i => bounded_scale (n7 i), fun i => bounded_code (n4 i) (n5 i), fun i => bounded_scale (n8 i)⟩

end Cert.InRange

end
-- ==== Proof.Inputs.lean ====
/- The arrays the two programs compute from: both widen the same code words and read the same scales, and by the precondition every
   element is a bounded real. -/
module

public import proofs.«01_k».proof.Proof.KernelElements
public import proofs.«01_k».proof.Proof.ReferenceArrays
public import proofs.«01_k».proof.Proof.InRange
public import Idealize.ShloMosaic.Lib.Claim

@[expose] public section

set_option maxRecDepth 16384

noncomputable section

namespace Cert.Equation

open Idealize.ShloMosaic Idealize.ShloMosaic.TcCoe
open Cert.Exponent Cert.KernelIdeal.Body

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs are given the same six arguments. -/
def SameArguments : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable {m m' c}

/-! What the reference computes from is what the kernel computes from. -/

theorem same_x (h : SameArguments m m' c) : (Cert.ReferenceIdeal.Gen.V m' c Cert.ReferenceIdeal.main_v3 : Mat 32768 7936) = inX m c := by
  unfold inX
  entry_read
  rw [h.1]
  rfl

theorem same_xs (h : SameArguments m m' c) : (Cert.ReferenceIdeal.Gen.V m' c Cert.ReferenceIdeal.main_v4 : Mat 32768 62) = inXS m c := by
  unfold inXS
  entry_read
  rw [h.2.1]
  rfl

theorem same_g (h : SameArguments m m' c) : (Cert.ReferenceIdeal.Gen.V m' c Cert.ReferenceIdeal.main_v1 : Mat 6656 7936) = inG m c := by
  unfold inG
  entry_read
  rw [h.2.2.1]

theorem same_gs (h : SameArguments m m' c) : (Cert.ReferenceIdeal.Gen.V m' c Cert.ReferenceIdeal.main_arg3 : Mat 6656 62) = inGS m c :=
  (Cert.ReferenceIdeal.Gen.V_main_arg3 m' c).trans (h.2.2.2.1.trans (Cert.KernelIdeal.Gen.V_main_arg3 m c).symm)

theorem same_u (h : SameArguments m m' c) : (Cert.ReferenceIdeal.Gen.V m' c Cert.ReferenceIdeal.main_v2 : Mat 6656 7936) = inU m c := by
  unfold inU
  entry_read
  rw [h.2.2.2.2.1]

theorem same_us (h : SameArguments m m' c) : (Cert.ReferenceIdeal.Gen.V m' c Cert.ReferenceIdeal.main_arg5 : Mat 6656 62) = inUS m c :=
  (Cert.ReferenceIdeal.Gen.V_main_arg5 m' c).trans (h.2.2.2.2.2.trans (Cert.KernelIdeal.Gen.V_main_arg5 m c).symm)

/-! Every element of them is a bounded real. -/

variable [Cert.Pre_in_range.Facts] (h : Cert.Pre_KernelIdeal_in_range m)
include h

theorem bounded_x (i) : Bounded 448 (inX m c i) := by
  unfold inX
  entry_read
  exact (Cert.InRange.elements h c).1 _

theorem bounded_xs (i) : Bounded 65536 (inXS m c i) := by
  unfold inXS
  entry_read
  exact (Cert.InRange.elements h c).2.1 _

theorem bounded_g (i) : Bounded 448 (inG m c i) := by
  unfold inG
  entry_read
  exact (Cert.InRange.elements h c).2.2.1 _

theorem bounded_gs (i) : Bounded 65536 (inGS m c i) := by
  have e : inGS m c = m ((c.tc : Thread Cert.KernelIdeal.nD Cert.KernelIdeal.τ).loc Cert.KernelIdeal.main_arg3) := Cert.KernelIdeal.Gen.V_main_arg3 m c
  rw [e]
  exact (Cert.InRange.elements h c).2.2.2.1 _

theorem bounded_u (i) : Bounded 448 (inU m c i) := by
  unfold inU
  entry_read
  exact (Cert.InRange.elements h c).2.2.2.2.1 _

theorem bounded_us (i) : Bounded 65536 (inUS m c i) := by
  have e : inUS m c = m ((c.tc : Thread Cert.KernelIdeal.nD Cert.KernelIdeal.τ).loc Cert.KernelIdeal.main_arg5) := Cert.KernelIdeal.Gen.V_main_arg5 m c
  rw [e]
  exact (Cert.InRange.elements h c).2.2.2.2.2 _

end Cert.Equation

end
-- ==== Proof.Reference.lean ====
/- The reference at one element, over the reals: the dequantised product, silu of the gate times the up projection, the group's
   quantiser argument, the scale and the code. -/
module

public import proofs.«01_k».proof.Proof.Hidden
public import proofs.«01_k».proof.Proof.Gen.ReferenceIdeal.Value
public import Idealize.ShloMosaic.Lib.Pointwise

@[expose] public section

set_option maxRecDepth 16384

noncomputable section

namespace Cert.ReferenceIdeal.Read

open Cert.ReferenceIdeal Cert.ReferenceIdeal.Gen Idealize.ShloMosaic Idealize.ShloMosaic.TcCoe
open Cert.Exponent

variable (x : Vec Ideal S32768x7936 .fp8e4m3) (xs : Vec Ideal S32768x62 .f32) (g : Vec Ideal S6656x7936 .fp8e4m3) (gs : Vec Ideal S6656x62 .f32)
  (u : Vec Ideal S6656x7936 .fp8e4m3) (us : Vec Ideal S6656x62 .f32)

/-- h at an element. -/
theorem hidden_read (r : Fin 32768) (b : Fin 52) (l : Fin 128) :
    k0_pay4 x xs g gs u us (ix3 r b l) = hidden x xs g gs u us r ⟨b.val * 128 + l.val, by omega⟩ := by
  pointwise [k0_pay4]
  exact congrArg₂ swiglu (Finset.sum_congr rfl fun k _ => rfl) (Finset.sum_congr rfl fun k _ => rfl)

/-- The largest element of a group, for any array. -/
theorem groupMax_read (v : FVec Ideal S32768x52x128 .f32) (r : Fin 32768) (b : Fin 52) :
    multiReduction .maximumf [2] S32768x52 v 0xFF800000#32 reduces_S32768x52x128_S32768x52 (.inl rfl) rfl (ix2 r b)
      = Finset.univ.fold max (Ideal.ofBits .f32 0xFF800000#32) (fun l : Fin 128 => v (ix3 r b l)) := by
  pointwise

/-- The magnitude of an element. -/
theorem abs_read (v : FVec Ideal S32768x52x128 .f32) (i : S32768x52x128.Idx) : absf v i = max (v i) (-(v i)) := rfl

/-- The groups' quantiser arguments, from any array. -/
def argsOf (h : FVec Ideal S32768x52x128 .f32) : FVec Ideal S32768x52 .f32 :=
  mulf (multiReduction .maximumf [2] S32768x52 (absf h) 0xFF800000#32 reduces_S32768x52x128_S32768x52 (.inl rfl) rfl)
    (broadcast S32768x52 (Scalar.ofBits .f32 0x3B124925#32))

/-- A constant, at an element. -/
theorem const_read (w : BitVec 32) (i : S32768x52.Idx) :
    broadcast S32768x52 (Scalar.ofBits (F := Ideal) .f32 w) i = Ideal.ofBits .f32 w := rfl

/-- A product, at an element. -/
theorem mul_read (v w : FVec Ideal S32768x52 .f32) (i : S32768x52.Idx) : mulf v w i = v i * w i := rfl

/-- A group's quantiser argument, from any array. -/
theorem argsOf_read (h : FVec Ideal S32768x52x128 .f32) (r : Fin 32768) (b : Fin 52) : argsOf h (ix2 r b) = groupArg fun l => h (ix3 r b l) := by
  unfold argsOf groupArg
  rw [mul_read, groupMax_read, const_read]
  simp only [abs_read]

/-- A group's quantiser argument. -/
theorem arg_read (r : Fin 32768) (b : Fin 52) :
    k0_pay5 x xs g gs u us (ix2 r b) = groupArg fun l => k0_pay4 x xs g gs u us (ix3 r b l) :=
  argsOf_read _ r b

/-- A group's exponent: the least power of two holding the argument. -/
theorem exp_read (A : FVec Ideal S32768x52 .f32) (r : Fin 32768) (b : Fin 52) :
    k0_pay1 A (iota .tc S32768x52x252 32 [2] iota_S32768x52x252_d2_w32) k0_pay6 (ix2 r b) = leastExp (A (ix2 r b)) := by
  have hc : ∀ (a : EReal) (k : Fin 252), (if a < FloatOps.exp2 (F := Ideal) (φ := .f32) (FloatOps.sitofp .f32 (IntOp.subi (BitVec.ofNat 32 k.val) 125#32)) then
      FloatOps.sitofp (F := Ideal) .f32 (IntOp.subi (BitVec.ofNat 32 k.val) 125#32) else Ideal.ofBits .f32 0x42FE0000#32) = candidate a k := fun a k => rfl
  pointwise [k0_pay1, k0_pay6]
  simp only [hc]
  unfold leastExp
  rw [ofBits_zero, EReal.coe_zero]

/-- A scale is two to its exponent. -/
theorem scale_read (A : FVec Ideal S32768x52 .f32) (p q : IVec S32768x52x252 32) (r : Fin 32768) (b : Fin 52) :
    k0_pay2 A p q (ix2 r b) = Ideal.exp2 (k0_pay1 A p q (ix2 r b)) := rfl

/-- A code: the element over its group's scale, clamped. -/
theorem code_read (h : FVec Ideal S32768x52x128 .f32) (A : FVec Ideal S32768x52 .f32) (p q : IVec S32768x52x252 32) (r : Fin 32768) (j : Fin 6656) :
    k0_pay3 h A p q (ix2 r j) = clamped (h (ix3 r ⟨j.val / 128, by omega⟩ ⟨j.val % 128, by omega⟩))
      (Ideal.exp2 (Ideal.ofBits .f32 0x00000000#32 - k0_pay1 A p q (ix2 r ⟨j.val / 128, by omega⟩))) := by
  pointwise [k0_pay3]
  generalize k0_pay1 A p q (ix2 r ⟨j.val / 128, by omega⟩) = e
  rfl

end Cert.ReferenceIdeal.Read

end
-- ==== Proof.Equation.lean ====
/- The equation: the kernel's codes and scales are the reference's. -/
module

public import proofs.«01_k».proof.Proof.Inputs
public import proofs.«01_k».proof.Proof.Reference
public import proofs.«01_k».proof.Proof.PowerOfTwo

@[expose] public section

set_option maxRecDepth 16384

noncomputable section

namespace Cert.Equation

open Idealize.ShloMosaic Idealize.ShloMosaic.TcCoe
open Cert.Exponent Cert.KernelIdeal.Body

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

/-- The reference's h is the kernel's. -/
theorem hidden_agree (h : SameArguments m m' c) (r : Fin 32768) (b : Fin 52) (l : Fin 128) :
    Cert.ReferenceIdeal.Read.hidden3 m' c (ix3 r b l) = hiddenK m c r ⟨b.val * 128 + l.val, by omega⟩ := by
  refine (Cert.ReferenceIdeal.Read.hidden_read _ _ _ _ _ _ r b l).trans ?_
  rw [same_x h, same_xs h, same_g h, same_gs h, same_u h, same_us h]

/-- The reference's quantiser arguments are the kernel's. -/
theorem args_agree (h : SameArguments m m' c) (r : Fin 32768) (b : Fin 52) :
    Cert.ReferenceIdeal.Read.args m' c (ix2 r b) = argK m c r b :=
  (Cert.ReferenceIdeal.Read.arg_read _ _ _ _ _ _ r b).trans (congrArg groupArg (funext fun l => hidden_agree h r b l))

/-- A group's exponent on the reference's side, of the kernel's quantiser argument. -/
theorem exp_agree (h : SameArguments m m' c) (r : Fin 32768) (b : Fin 52) :
    Cert.ReferenceIdeal.Gen.k0_pay1 (Cert.ReferenceIdeal.Read.args m' c)
      (iota .tc Cert.ReferenceIdeal.S32768x52x252 32 [2] Cert.ReferenceIdeal.Gen.iota_S32768x52x252_d2_w32) Cert.ReferenceIdeal.Gen.k0_pay6 (ix2 r b)
      = leastExp (argK m c r b) :=
  (Cert.ReferenceIdeal.Read.exp_read _ r b).trans (congrArg leastExp (args_agree h r b))

variable [Cert.Pre_in_range.Facts]

/-- No quantiser argument reaches the top of the format's exponents. -/
theorem arg_lt (hp : Cert.Pre_KernelIdeal_in_range m) (r : Fin 32768) (b : Fin 52) : argK m c r b < power 253 :=
  hiddenArg_lt (bounded_x hp) (bounded_xs hp) (bounded_g hp) (bounded_gs hp) (bounded_u hp) (bounded_us hp) r b

/-- The scales agree at an element. -/
theorem scale_agree (hp : Cert.Pre_KernelIdeal_in_range m) (h : SameArguments m m' c) (r : Fin 32768) (b : Fin 52) :
    Cert.ReferenceIdeal.Read.scales m' c (ix2 r b) = scales m c (ix2 r b) := by
  refine (Cert.ReferenceIdeal.Read.scale_read _ _ _ r b).trans ?_
  refine (congrArg Ideal.exp2 (exp_agree h r b)).trans ?_
  exact (scales_agree (arg_lt hp r b)).1.symm.trans (scales_read m c r b).symm

/-- The codes agree at an element. -/
theorem code_agree (hp : Cert.Pre_KernelIdeal_in_range m) (h : SameArguments m m' c) (r : Fin 32768) (j : Fin 6656) :
    Cert.ReferenceIdeal.Read.codes m' c (ix2 r j) = codes m c (ix2 r j) := by
  refine (Cert.ReferenceIdeal.Read.code_read _ _ _ _ r j).trans (Eq.trans ?_ (codes_read m c r j).symm)
  refine congrArg₂ clamped ?_ ?_
  · refine (hidden_agree h r _ _).trans (congrArg (hiddenK m c r) (Fin.ext ?_))
    show j.val / 128 * 128 + j.val % 128 = j.val
    omega
  · refine (congrArg (fun e => Ideal.exp2 (Ideal.ofBits .f32 0x00000000#32 - e)) (exp_agree h r _)).trans ?_
    exact (scales_agree (arg_lt hp r _)).2.symm

/-- The scales agree. -/
theorem scales_eq (hp : Cert.Pre_KernelIdeal_in_range m) (h : SameArguments m m' c) : Cert.ReferenceIdeal.Read.scales m' c = scales m c := by
  funext i
  have e : i = ix2 (i 0) (i 1) := ValueIdx.eq_ix2 i
  rw [e]
  exact scale_agree hp h _ _

/-- The codes agree. -/
theorem codes_eq (hp : Cert.Pre_KernelIdeal_in_range m) (h : SameArguments m m' c) : Cert.ReferenceIdeal.Read.codes m' c = codes m c := by
  funext i
  have e : i = ix2 (i 0) (i 1) := ValueIdx.eq_ix2 i
  rw [e]
  exact code_agree hp h _ _

end Cert.Equation

end
-- ==== Proof.lean ====
/- The claims, assembled: the two frames of the kernel, the reference's frame, and the equation of both results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_in_range
public import proofs.«01_k».proof.Proof.KernelFrame
public import proofs.«01_k».proof.Proof.Launch
public import proofs.«01_k».proof.Proof.Final
public import proofs.«01_k».proof.Proof.ReferenceArrays
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Both results of the kernel, the codes and the scales, are the reference's over the reals. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hp h
  refine ⟨fun c => Cert.KernelIdeal.Body.codes m c, fun c => Cert.KernelIdeal.Body.scales m c, ?_, ?_⟩
  · exact (θ_run Cert.KernelIdeal.defs _ _).mono (fun r k c => ⟨(k c).1.1, (k c).1.2, (k c).2⟩) (Cert.KernelIdeal.Body.run_values m g)
  · refine (θ_run Cert.ReferenceIdeal.defs _ _).mono (fun r k c => ?_) (Cert.ReferenceIdeal.Value.run_blocks m' g')
    obtain ⟨k0, k1, k2⟩ := k c
    exact ⟨k0.trans ((Cert.ReferenceIdeal.Read.final_6 m' c).trans (Cert.Equation.codes_eq hp (h c))),
      k1.trans ((Cert.ReferenceIdeal.Read.final_7 m' c).trans (Cert.Equation.scales_eq hp (h c))), k2⟩

theorem claim : Cert.Claim := ⟨Cert.Kernel.Gen.facts, Cert.KernelIdeal.Gen.facts, Cert.ReferenceIdeal.Gen.facts, Cert.Pre_in_range.Gen.facts,
  fun m g _ => Cert.Kernel.Forgotten.frame m g, fun m g _ => Cert.KernelIdeal.Body.frame m g, fun m g _ => Cert.KernelIdeal.Body.frame m g,
  fun m g _ => Cert.ReferenceIdeal.Gen.frame m g, fun m g _ => Cert.ReferenceIdeal.Gen.frame m g, trivial, algebraic⟩

end Cert.Proof

end
